-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 8192, 2048]⟩ ⟨3, ![4, 8192, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S3x2048x1024 : Shape := ⟨3, ![3, 2048, 1024]⟩
abbrev S2x2048x1024 : Shape := ⟨3, ![2, 2048, 1024]⟩
abbrev S1024x2048 : Shape := ⟨2, ![1024, 2048]⟩
abbrev S4 : Shape := ⟨1, ![4]⟩
abbrev S6 : Shape := ⟨1, ![6]⟩
abbrev S_ : Shape := ⟨0, ![]⟩
abbrev S1 : Shape := ⟨1, ![1]⟩
abbrev S1x2048x1024 : Shape := ⟨3, ![1, 2048, 1024]⟩
abbrev S2048x1024 : Shape := ⟨2, ![2048, 1024]⟩
abbrev S1024x1024 : Shape := ⟨2, ![1024, 1024]⟩
abbrev S1x1024x1024 : Shape := ⟨3, ![1, 1024, 1024]⟩
abbrev S1x1024x2048 : Shape := ⟨3, ![1, 1024, 2048]⟩
abbrev S1024 : Shape := ⟨1, ![1024]⟩
abbrev S1024x1 : Shape := ⟨2, ![1024, 1]⟩
abbrev S1x2048 : Shape := ⟨2, ![1, 2048]⟩

abbrev nBuf : Space → Nat
  | .hbm => 8
  | .vmem => 4
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S3x2048x1024, .f32⟩
  | .hbm, ⟨5, _⟩ => ⟨S3x2048x1024, .f32⟩
  | .hbm, ⟨6, _⟩ => ⟨S2x2048x1024, .f32⟩
  | .hbm, ⟨7, _⟩ => ⟨S2x2048x1024, .f32⟩
  | .local _ .vmem, ⟨0, _⟩ => ⟨S2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_15 : BitVec 32 := 1#32
  let v27 : BitVec 32 := Scalar.muli v25 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18 : BitVec 32 := 1#32
  let v29 : BitVec 32 := Scalar.muli v13 c1_i32_18
  let v30 : BitVec 32 := Scalar.addi c0_i32_19 v29
  v30.toNat
def k0_off1 (d0 : Dev nD) : Fin 3 → Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_20 : BitVec 32 := 4#32
  let v31 : BitVec 32 := Scalar.addi v2 c4_i32_20
  let c1_i32_21 : BitVec 32 := 1#32
  let v32 : BitVec 32 := Scalar.subi v31 c1_i32_21
  let c4_i32_22 : BitVec 32 := 4#32
  let c0_i32_23 : BitVec 32 := 0#32
  let v33 : BitVec 1 := Scalar.cmpi .eq c4_i32_22 c0_i32_23
  let c1_i32_24 : BitVec 32 := 1#32
  let v34 : BitVec 32 := Scalar.select v33 c1_i32_24 c4_i32_22
  let v35 : BitVec 32 := Scalar.remsi v32 v34
  let c0_i32_26 : BitVec 32 := 0#32
  let v37 : BitVec 1 := Scalar.cmpi .slt v35 c0_i32_26
  let c0_i32_27 : BitVec 32 := 0#32
  let v38 : BitVec 1 := Scalar.cmpi .slt v34 c0_i32_27
  let v39 : BitVec 1 := Scalar.xori v37 v38
  let c0_i32_25 : BitVec 32 := 0#32
  let v36 : BitVec 1 := Scalar.cmpi .ne v35 c0_i32_25
  let v40 : BitVec 1 := Scalar.andi v39 v36
  let v41 : BitVec 32 := Scalar.addi v35 v34
  let v42 : BitVec 32 := Scalar.select v40 v41 v35
  let c2048_i32 : BitVec 32 := 2048#32
  let v54 : BitVec 32 := Scalar.muli v42 c2048_i32
  let c0_i32_44 : BitVec 32 := 0#32
  ![0, v54.toNat, 0]
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_40 : BitVec 32 := 1#32
  let v56 : BitVec 32 := Scalar.muli v13 c1_i32_40
  let v57 : BitVec 32 := Scalar.addi c0_i32_41 v56
  v57.toNat
def k0_off2 (d0 : Dev nD) : Fin 3 → Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2048_i32_35 : BitVec 32 := 2048#32
  let v55 : BitVec 32 := Scalar.muli v53 c2048_i32_35
  let c1024_i32 : BitVec 32 := 1024#32
  ![0, v55.toNat, 1024]
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_49 : BitVec 32 := 1#32
  let v66 : BitVec 32 := Scalar.muli v25 c1_i32_49
  let v67 : BitVec 32 := Scalar.addi c0_i32_50 v66
  v67.toNat
def k0_off3 (d0 : Dev nD) (c1_i32_89 : BitVec 32) (c0_i32_105 : BitVec 32) : Fin 3 → Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_87 : BitVec 32 := 4#32
  let v104 : BitVec 32 := Scalar.addi v2 c4_i32_87
  let c1_i32_88 : BitVec 32 := 1#32
  let v105 : BitVec 32 := Scalar.subi v104 c1_i32_88
  let v106 : BitVec 32 := Scalar.subi v105 c1_i32_89
  let c4_i32_90 : BitVec 32 := 4#32
  let c0_i32_91 : BitVec 32 := 0#32
  let v107 : BitVec 1 := Scalar.cmpi .eq c4_i32_90 c0_i32_91
  let c1_i32_92 : BitVec 32 := 1#32
  let v108 : BitVec 32 := Scalar.select v107 c1_i32_92 c4_i32_90
  let v109 : BitVec 32 := Scalar.remsi v106 v108
  let c0_i32_94 : BitVec 32 := 0#32
  let v111 : BitVec 1 := Scalar.cmpi .slt v109 c0_i32_94
  let c0_i32_95 : BitVec 32 := 0#32
  let v112 : BitVec 1 := Scalar.cmpi .slt v108 c0_i32_95
  let v113 : BitVec 1 := Scalar.xori v111 v112
  let c0_i32_93 : BitVec 32 := 0#32
  let v110 : BitVec 1 := Scalar.cmpi .ne v109 c0_i32_93
  let v114 : BitVec 1 := Scalar.andi v113 v110
  let v115 : BitVec 32 := Scalar.addi v109 v108
  let v116 : BitVec 32 := Scalar.select v114 v115 v109
  let c2048_i32_104 : BitVec 32 := 2048#32
  let v129 : BitVec 32 := Scalar.muli v116 c2048_i32_104
  let v130 : BitVec 32 := Scalar.addi v129 c0_i32_105
  let c0_i32_124 : BitVec 32 := 0#32
  ![0, v130.toNat, 0]
def k0_off4 (d0 : Dev nD) (c1_i32_97 : BitVec 32) (c0_i32_107 : BitVec 32) : Fin 3 → Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_96 : BitVec 32 := 1#32
  let v117 : BitVec 32 := Scalar.addi v2 c1_i32_96
  let v118 : BitVec 32 := Scalar.addi v117 c1_i32_97
  let c4_i32_98 : BitVec 32 := 4#32
  let c0_i32_99 : BitVec 32 := 0#32
  let v119 : BitVec 1 := Scalar.cmpi .eq c4_i32_98 c0_i32_99
  let c1_i32_100 : BitVec 32 := 1#32
  let v120 : BitVec 32 := Scalar.select v119 c1_i32_100 c4_i32_98
  let v121 : BitVec 32 := Scalar.remsi v118 v120
  let c0_i32_102 : BitVec 32 := 0#32
  let v123 : BitVec 1 := Scalar.cmpi .slt v121 c0_i32_102
  let c0_i32_103 : BitVec 32 := 0#32
  let v124 : BitVec 1 := Scalar.cmpi .slt v120 c0_i32_103
  let v125 : BitVec 1 := Scalar.xori v123 v124
  let c0_i32_101 : BitVec 32 := 0#32
  let v122 : BitVec 1 := Scalar.cmpi .ne v121 c0_i32_101
  let v126 : BitVec 1 := Scalar.andi v125 v122
  let v127 : BitVec 32 := Scalar.addi v121 v120
  let v128 : BitVec 32 := Scalar.select v126 v127 v121
  let c2048_i32_106 : BitVec 32 := 2048#32
  let v131 : BitVec 32 := Scalar.muli v128 c2048_i32_106
  let v132 : BitVec 32 := Scalar.addi v131 c0_i32_107
  let c1024_i32_128 : BitVec 32 := 1024#32
  ![0, v132.toNat, 1024]
def k0_dev5 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_262 : BitVec 32 := 1#32
  let v269 : BitVec 32 := Scalar.muli v13 c1_i32_262
  let v270 : BitVec 32 := Scalar.addi c0_i32_263 v269
  v270.toNat
def k0_dev6 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_272 : BitVec 32 := 1#32
  let v279 : BitVec 32 := Scalar.muli v25 c1_i32_272
  let v280 : BitVec 32 := Scalar.addi c0_i32_273 v279
  v280.toNat
def k0_dev7 (d0 : Dev nD) : Nat :=
  let c0_i32_494 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_493 : BitVec 32 := 1#32
  let v482 : BitVec 32 := Scalar.muli v13 c1_i32_493
  let v483 : BitVec 32 := Scalar.addi c0_i32_494 v482
  v483.toNat
def k0_dev8 (d0 : Dev nD) : Nat :=
  let c0_i32_503 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_502 : BitVec 32 := 1#32
  let v492 : BitVec 32 := Scalar.muli v25 c1_i32_502
  let v493 : BitVec 32 := Scalar.addi c0_i32_503 v492
  v493.toNat
def k0_off5 (d0 : Dev nD) (c0_i32_547 : BitVec 32) : Fin 3 → Nat :=
  let c0_i32_560 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_546 : BitVec 32 := 2048#32
  let v530 : BitVec 32 := Scalar.muli v2 c2048_i32_546
  let v531 : BitVec 32 := Scalar.addi v530 c0_i32_547
  let c0_i32_562 : BitVec 32 := 0#32
  ![0, v531.toNat, 0]
def k0_off6 (d0 : Dev nD) (c0_i32_547 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_546 : BitVec 32 := 2048#32
  let v530 : BitVec 32 := Scalar.muli v2 c2048_i32_546
  let v531 : BitVec 32 := Scalar.addi v530 c0_i32_547
  let c0_i32_564 : BitVec 32 := 0#32
  ![v531.toNat, 0]
def k0_off7 (d0 : Dev nD) (c0_i32_650 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_649 : BitVec 32 := 4#32
  let v660 : BitVec 32 := Scalar.addi v2 c4_i32_649
  let v661 : BitVec 32 := Scalar.subi v660 c0_i32_650
  let c4_i32_651 : BitVec 32 := 4#32
  let c0_i32_652 : BitVec 32 := 0#32
  let v662 : BitVec 1 := Scalar.cmpi .eq c4_i32_651 c0_i32_652
  let c1_i32_653 : BitVec 32 := 1#32
  let v663 : BitVec 32 := Scalar.select v662 c1_i32_653 c4_i32_651
  let v664 : BitVec 32 := Scalar.remsi v661 v663
  let c0_i32_655 : BitVec 32 := 0#32
  let v666 : BitVec 1 := Scalar.cmpi .slt v664 c0_i32_655
  let c0_i32_656 : BitVec 32 := 0#32
  let v667 : BitVec 1 := Scalar.cmpi .slt v663 c0_i32_656
  let v668 : BitVec 1 := Scalar.xori v666 v667
  let c0_i32_654 : BitVec 32 := 0#32
  let v665 : BitVec 1 := Scalar.cmpi .ne v664 c0_i32_654
  let v669 : BitVec 1 := Scalar.andi v668 v665
  let v670 : BitVec 32 := Scalar.addi v664 v663
  let v671 : BitVec 32 := Scalar.select v669 v670 v664
  let c2048_i32_665 : BitVec 32 := 2048#32
  let v684 : BitVec 32 := Scalar.muli v671 c2048_i32_665
  let c0_i32_672 : BitVec 32 := 0#32
  ![v684.toNat, 0]
def k0_dev9 (d0 : Dev nD) : Nat :=
  let c0_i32_671 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_670 : BitVec 32 := 1#32
  let v687 : BitVec 32 := Scalar.muli v13 c1_i32_670
  let v688 : BitVec 32 := Scalar.addi c0_i32_671 v687
  v688.toNat
def k0_off8 (d0 : Dev nD) (c0_i32_657 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v672 : BitVec 32 := Scalar.addi v2 c0_i32_657
  let c4_i32_658 : BitVec 32 := 4#32
  let c0_i32_659 : BitVec 32 := 0#32
  let v673 : BitVec 1 := Scalar.cmpi .eq c4_i32_658 c0_i32_659
  let c1_i32_660 : BitVec 32 := 1#32
  let v674 : BitVec 32 := Scalar.select v673 c1_i32_660 c4_i32_658
  let v675 : BitVec 32 := Scalar.remsi v672 v674
  let c0_i32_662 : BitVec 32 := 0#32
  let v677 : BitVec 1 := Scalar.cmpi .slt v675 c0_i32_662
  let c0_i32_663 : BitVec 32 := 0#32
  let v678 : BitVec 1 := Scalar.cmpi .slt v674 c0_i32_663
  let v679 : BitVec 1 := Scalar.xori v677 v678
  let c0_i32_661 : BitVec 32 := 0#32
  let v676 : BitVec 1 := Scalar.cmpi .ne v675 c0_i32_661
  let v680 : BitVec 1 := Scalar.andi v679 v676
  let v681 : BitVec 32 := Scalar.addi v675 v674
  let v682 : BitVec 32 := Scalar.select v680 v681 v675
  let c2048_i32_667 : BitVec 32 := 2048#32
  let v686 : BitVec 32 := Scalar.muli v682 c2048_i32_667
  let c1024_i32_678 : BitVec 32 := 1024#32
  ![v686.toNat, 1024]
def k0_dev10 (d0 : Dev nD) : Nat :=
  let c0_i32_677 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_676 : BitVec 32 := 1#32
  let v695 : BitVec 32 := Scalar.muli v25 c1_i32_676
  let v696 : BitVec 32 := Scalar.addi c0_i32_677 v695
  v696.toNat
def k0_dev11 (d0 : Dev nD) : Nat :=
  let c0_i32_724 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_723 : BitVec 32 := 1#32
  let v750 : BitVec 32 := Scalar.muli v13 c1_i32_723
  let v751 : BitVec 32 := Scalar.addi c0_i32_724 v750
  v751.toNat
def k0_dev12 (d0 : Dev nD) : Nat :=
  let c0_i32_730 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_729 : BitVec 32 := 1#32
  let v758 : BitVec 32 := Scalar.muli v25 c1_i32_729
  let v759 : BitVec 32 := Scalar.addi c0_i32_730 v758
  v759.toNat
def k0_dev13 (d0 : Dev nD) : Nat :=
  let c0_i32_777 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_776 : BitVec 32 := 1#32
  let v813 : BitVec 32 := Scalar.muli v13 c1_i32_776
  let v814 : BitVec 32 := Scalar.addi c0_i32_777 v813
  v814.toNat
def k0_dev14 (d0 : Dev nD) : Nat :=
  let c0_i32_783 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v14 : BitVec 32 := Scalar.addi v2 c4_i32_6
  let c1_i32_7 : BitVec 32 := 1#32
  let v15 : BitVec 32 := Scalar.subi v14 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_782 : BitVec 32 := 1#32
  let v821 : BitVec 32 := Scalar.muli v25 c1_i32_782
  let v822 : BitVec 32 := Scalar.addi c0_i32_783 v821
  v822.toNat
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x8192x2048 : Shape := ⟨3, ![4, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.RunI.Prog.lean ====
/-
The body of the kernel written as a short chain of segments: the handshake, the transfers of a hop, the addition of
one chunk, the normalisation of one chunk. Each segment is a program with the program that follows it as its last
argument.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.Sem

variable {F : FTy → Type} [FloatOps F]

/-- An array of floats in main memory. -/
abbrev HB (s : Shape) : Type := Memref sig .tc .hbm s .f32
/-- An array of floats in vector memory. -/
abbrev VB (s : Shape) : Type := Memref sig .tc .vmem s .f32

variable (F) in
/-- The programs of the body. -/
abbrev PR : Type 1 := Prog (TpuEff nD τ sig (Elt F) Λ₀ .tc) PUnit

/-! ## The regions of the buffers that the body names -/

/-- A slot of a receive buffer. -/
abbrev slot3 (W : HB S3x2048x1024) (o : Fin 3 → ℕ) (h : ∀ a, o a + S1x2048x1024.size a ≤ S3x2048x1024.size a) :
    HB S2048x1024 :=
  (W.slice (Rect.unit (s := S3x2048x1024) o S1x2048x1024.size h) (fun _ => rfl)).squeeze S2048x1024
    squeezes_S1x2048x1024_S2048x1024

/-- A slot of a send buffer. -/
abbrev slot2 (W : HB S2x2048x1024) (o : Fin 3 → ℕ) (h : ∀ a, o a + S1x2048x1024.size a ≤ S2x2048x1024.size a) :
    HB S2048x1024 :=
  (W.slice (Rect.unit (s := S2x2048x1024) o S1x2048x1024.size h) (fun _ => rfl)).squeeze S2048x1024
    squeezes_S1x2048x1024_S2048x1024

/-- Half of the rows of a slot of a receive buffer. -/
abbrev chunk3 (W : HB S3x2048x1024) (o : Fin 3 → ℕ) (h : ∀ a, o a + S1x1024x1024.size a ≤ S3x2048x1024.size a) :
    HB S1024x1024 :=
  (W.slice (Rect.unit (s := S3x2048x1024) o S1x1024x1024.size h) (fun _ => rfl)).squeeze S1024x1024
    squeezes_S1x1024x1024_S1024x1024

/-- Half of the rows of a slot of a send buffer. -/
abbrev chunk2 (W : HB S2x2048x1024) (o : Fin 3 → ℕ) (h : ∀ a, o a + S1x1024x1024.size a ≤ S2x2048x1024.size a) :
    HB S1024x1024 :=
  (W.slice (Rect.unit (s := S2x2048x1024) o S1x1024x1024.size h) (fun _ => rfl)).squeeze S1024x1024
    squeezes_S1x1024x1024_S1024x1024

/-- Half of the columns of a block of the device's partial sums. -/
abbrev parB (W : HB S1x8192x2048) (o : Fin 3 → ℕ) (h : ∀ a, o a + S1x2048x1024.size a ≤ S1x8192x2048.size a) :
    HB S2048x1024 :=
  (W.slice (Rect.unit (s := S1x8192x2048) o S1x2048x1024.size h) (fun _ => rfl)).squeeze S2048x1024
    squeezes_S1x2048x1024_S2048x1024

/-- Half of the rows of such a half block. -/
abbrev parC (W : HB S1x8192x2048) (o : Fin 3 → ℕ) (h : ∀ a, o a + S1x1024x1024.size a ≤ S1x8192x2048.size a) :
    HB S1024x1024 :=
  (W.slice (Rect.unit (s := S1x8192x2048) o S1x1024x1024.size h) (fun _ => rfl)).squeeze S1024x1024
    squeezes_S1x1024x1024_S1024x1024

/-- Half of the rows of a whole block of the partial sums. -/
abbrev parF (W : HB S1x8192x2048) (o : Fin 3 → ℕ) (h : ∀ a, o a + S1x1024x2048.size a ≤ S1x8192x2048.size a) :
    HB S1024x2048 :=
  (W.slice (Rect.unit (s := S1x8192x2048) o S1x1024x2048.size h) (fun _ => rfl)).squeeze S1024x2048
    squeezes_S1x1024x2048_S1024x2048

/-- Half of the rows of a block of the result or of the residual. -/
abbrev rowC (W : HB S8192x2048) (o : Fin 2 → ℕ) (h : ∀ a, o a + S1024x2048.size a ≤ S8192x2048.size a) :
    HB S1024x2048 :=
  W.slice (Rect.unit (s := S8192x2048) o S1024x2048.size h) (fun _ => rfl)

/-- Half of the columns of a block of the result. -/
abbrev outB (W : HB S8192x2048) (o : Fin 2 → ℕ) (h : ∀ a, o a + S2048x1024.size a ≤ S8192x2048.size a) :
    HB S2048x1024 :=
  W.slice (Rect.unit (s := S8192x2048) o S2048x1024.size h) (fun _ => rfl)

/-- The left columns of a scratch buffer. -/
abbrev colL (v : VB S1024x2048) : VB S1024x1024 :=
  v.slice (Rect.unit (s := S1024x2048) ![0, 0] S1024x1024.size inb_S1024x2048_S1024x1024_0_0) (fun _ => rfl)

/-- The right columns of a scratch buffer. -/
abbrev colR (v : VB S1024x2048) : VB S1024x1024 :=
  v.slice (Rect.unit (s := S1024x2048) ![0, 1024] S1024x1024.size inb_S1024x2048_S1024x1024_0_1024) (fun _ => rfl)

/-! ## The semaphores -/

/-- The semaphores of the local copies. -/
abbrev copyS (i : Fin 4) : DmaSem sig := ⟨1 + i.val, by have := i.isLt; show _ < 29; omega⟩

/-- The position among the transfers' semaphores of hop `h` in direction `b` (`false`: to the right). -/
def hopIx (h : Fin 6) (b : Bool) : ℕ := 2 * (h.val % 3) + (if b then 1 else 0)

theorem hopIx_lt (h : Fin 6) (b : Bool) : hopIx h b < 6 := by
  unfold hopIx; have := Nat.mod_lt h.val (show 0 < 3 by omega); split <;> omega

/-- The send semaphore of hop `h` in direction `b`: hops 0 to 2 reduce, hops 3 to 5 gather. -/
def sendS (h : Fin 6) (b : Bool) : DmaSem sig :=
  ⟨(if h.val < 3 then 5 else 17) + hopIx h b, by have := hopIx_lt h b; show _ < 29; split <;> omega⟩

/-- The receive semaphore of hop `h` in direction `b`. -/
def recvS (h : Fin 6) (b : Bool) : DmaSem sig :=
  ⟨(if h.val < 3 then 11 else 23) + hopIx h b, by have := hopIx_lt h b; show _ < 29; split <;> omega⟩

/-- The barrier semaphore. -/
abbrev barS : Sem sig := (SemArray.scalar (sig.barrier 0 rfl) : Sems sig S_).sem

/-! ## The segments -/

/-- The handshake. -/
def shake (dL dR : Dev nD) (kk : PR F) : PR F :=
  (semSignalWord dL barS 1#32 : Prog (TpuEff nD τ sig (Elt F) Λ₀ .tc) PUnit).bind fun _ =>
  (semSignalWord dR barS 1#32 : Prog (TpuEff nD τ sig (Elt F) Λ₀ .tc) PUnit).bind fun _ =>
  (semWaitWord barS 2#32 : Prog (TpuEff nD τ sig (Elt F) Λ₀ .tc) PUnit).bind fun _ => kk

/-- A hop: one transfer to the right and one to the left, then the waits. -/
def hop (dR dL : Dev nD) (sR tR sL tL : HB S2048x1024) (hR : tR.view.ref.isScScratch = false)
    (hL : tL.view.ref.isScScratch = false) (ssR rsR ssL rsL : DmaSem sig) (kk : PR F) : PR F :=
  .op (.enqueueDma sR (.remote (Dev.tc dR) tR (.dma ssR) hR) (.dma rsR) (View.wordExact_bits rfl)
    (View.wordExact_bits rfl) ⟨⟨rfl, Or.inl rfl⟩, trivial⟩) fun _ =>
  .op (.enqueueDma sL (.remote (Dev.tc dL) tL (.dma ssL) hL) (.dma rsL) (View.wordExact_bits rfl)
    (View.wordExact_bits rfl) ⟨⟨rfl, Or.inl rfl⟩, trivial⟩) fun _ =>
  .op (.waitDma2 ssR sR sR (View.wordExact_bits rfl) (View.wordExact_bits rfl)) fun _ =>
  .op (.waitDma2 rsR tR tR (View.wordExact_bits rfl) (View.wordExact_bits rfl)) fun _ =>
  .op (.waitDma2 ssL sL sL (View.wordExact_bits rfl) (View.wordExact_bits rfl)) fun _ =>
  .op (.waitDma2 rsL tL tL (View.wordExact_bits rfl) (View.wordExact_bits rfl)) fun _ => kk

/-- The whole of a scratch buffer as the region of a load or a store. -/
abbrev allV : Rect S1024x2048 :=
  Rect.unit (s := S1024x2048) ![0, 0] S1024x2048.size inb_S1024x2048_S1024x2048_0_0

/-- The whole of the weights' buffer as the region of a load. -/
abbrev allG : Rect S2048 := Rect.unit (s := S2048) ![0] S2048.size inb_S2048_S2048_0

/-- Four copies started and then awaited in turn. -/
def fetch4 {s₀ s₁ s₂ s₃ : Shape} (a₀ : HB s₀) (b₀ : VB s₀) (a₁ : HB s₁) (b₁ : VB s₁) (a₂ : HB s₂) (b₂ : VB s₂)
    (a₃ : HB s₃) (b₃ : VB s₃) (kk : PR F) : PR F :=
  .op (.enqueueDma a₀ (.here b₀) (.dma (copyS 0)) (View.wordExact_bits rfl) (View.wordExact_bits rfl)
    ⟨Or.inl rfl, trivial⟩) fun _ =>
  .op (.enqueueDma a₁ (.here b₁) (.dma (copyS 1)) (View.wordExact_bits rfl) (View.wordExact_bits rfl)
    ⟨Or.inl rfl, trivial⟩) fun _ =>
  .op (.enqueueDma a₂ (.here b₂) (.dma (copyS 2)) (View.wordExact_bits rfl) (View.wordExact_bits rfl)
    ⟨Or.inl rfl, trivial⟩) fun _ =>
  .op (.enqueueDma a₃ (.here b₃) (.dma (copyS 3)) (View.wordExact_bits rfl) (View.wordExact_bits rfl)
    ⟨Or.inl rfl, trivial⟩) fun _ =>
  .op (.waitDma2 (copyS 0) a₀ b₀ (View.wordExact_bits rfl) (View.wordExact_bits rfl)) fun _ =>
  .op (.waitDma2 (copyS 1) a₁ b₁ (View.wordExact_bits rfl) (View.wordExact_bits rfl)) fun _ =>
  .op (.waitDma2 (copyS 2) a₂ b₂ (View.wordExact_bits rfl) (View.wordExact_bits rfl)) fun _ =>
  .op (.waitDma2 (copyS 3) a₃ b₃ (View.wordExact_bits rfl) (View.wordExact_bits rfl)) fun _ => kk

/-- The sum of two chunks, as the kernel stores it. -/
abbrev sumOf (a b : Vec F S1024x2048 .f32) : Vec F S1024x2048 .f32 :=
  (shapeCast S1024x2048 (addf (a : FVec F S1024x2048 .f32) b) shapeCasts_S1024x2048_S1024x2048 : FVec F S1024x2048 .f32)

/-- The addition of a chunk: what arrived and the device's own part, into the next send slot. -/
def acc (w p r : VB S1024x2048) (aL aR pL pR oL oR : HB S1024x1024) (kk : PR F) : PR F :=
  fetch4 aL (colL w) aR (colR w) pL (colL p) pR (colR p) <|
  .op (.load w allV.toLoadRect (View.loadsAt_vmem h_S1024x2048)) fun x =>
  .op (.load p allV.toLoadRect (View.loadsAt_vmem h_S1024x2048)) fun y =>
  .op (.load r allV.toLoadRect (View.loadsAt_vmem h_S1024x2048)) fun _ =>
  .op (.store r allV (sumOf x y) Finset.univ (View.stores_vmem_bits_univ h_S1024x2048 rfl) (.inl rfl)) fun _ =>
  .op (.enqueueDma (colL r) (.here oL) (.dma (copyS 0)) (View.wordExact_bits rfl) (View.wordExact_bits rfl)
    ⟨Or.inl rfl, trivial⟩) fun _ =>
  .op (.enqueueDma (colR r) (.here oR) (.dma (copyS 1)) (View.wordExact_bits rfl) (View.wordExact_bits rfl)
    ⟨Or.inl rfl, trivial⟩) fun _ =>
  .op (.waitDma2 (copyS 0) (colL r) oL (View.wordExact_bits rfl) (View.wordExact_bits rfl)) fun _ =>
  .op (.waitDma2 (copyS 1) (colR r) oR (View.wordExact_bits rfl) (View.wordExact_bits rfl)) fun _ => kk

/-- The normalised chunk, as the kernel stores it. -/
abbrev normOf (a b c : Vec F S1024x2048 .f32) (g : Vec F S2048 .f32) : Vec F S1024x2048 .f32 :=
  k0_pay12 (k0_pay10 a b c) (k0_pay11 a b c) g

/-- The normalisation of a chunk: the last sum, the residual, the weights, into the result's block. -/
def norm (w p r : VB S1024x2048) (gm : VB S2048) (aL aR : HB S1024x1024) (pf rf o : HB S1024x2048) (kk : PR F) : PR F :=
  fetch4 aL (colL w) aR (colR w) pf p rf r <|
  .op (.load w allV.toLoadRect (View.loadsAt_vmem h_S1024x2048)) fun x =>
  .op (.load p allV.toLoadRect (View.loadsAt_vmem h_S1024x2048)) fun y =>
  .op (.load r allV.toLoadRect (View.loadsAt_vmem h_S1024x2048)) fun z =>
  .op (.load gm allG.toLoadRect (View.loadsAt_vmem h_S2048)) fun g =>
  .op (.load w allV.toLoadRect (View.loadsAt_vmem h_S1024x2048)) fun _ =>
  .op (.store w allV (normOf x y z g) Finset.univ (View.stores_vmem_bits_univ h_S1024x2048 rfl) (.inl rfl)) fun _ =>
  .op (.enqueueDma w (.here o) (.dma (copyS 0)) (View.wordExact_bits rfl) (View.wordExact_bits rfl)
    ⟨Or.inl rfl, trivial⟩) fun _ =>
  .op (.waitDma2 (copyS 0) w o (View.wordExact_bits rfl) (View.wordExact_bits rfl)) fun _ => kk

/-! ## The buffers -/

abbrev bPar : HB S1x8192x2048 := Memref.whole main_arg0
abbrev bRes : HB S8192x2048 := Memref.whole main_arg1
abbrev bOut : HB S8192x2048 := Memref.whole main_v1_0
abbrev bRr : HB S3x2048x1024 := Memref.whole main_v1_1
abbrev bRl : HB S3x2048x1024 := Memref.whole main_v1_2
abbrev bSr : HB S2x2048x1024 := Memref.whole main_v1_3
abbrev bSl : HB S2x2048x1024 := Memref.whole main_v1_4
abbrev bW : VB S1024x2048 := Memref.whole cc0_scratch0
abbrev bP : VB S1024x2048 := Memref.whole cc0_scratch1
abbrev bR : VB S1024x2048 := Memref.whole cc0_scratch2

/-! ## The body -/

/-- The hops of the second phase and the end. -/
def tail3 (d : Dev nD) : PR F :=
  hop ⟨k0_dev9 d, k0_dev9_lt d⟩ ⟨k0_dev10 d, k0_dev10_lt d⟩
    (outB bOut (k0_off7 d 0#32) (k0_off7_inb d 0)) (outB bOut (k0_off7 d 0#32) (k0_off7_inb d 0))
    (outB bOut (k0_off8 d 0#32) (k0_off8_inb d 0)) (outB bOut (k0_off8 d 0#32) (k0_off8_inb d 0)) rfl rfl
    (sendS 3 false) (recvS 3 false) (sendS 3 true) (recvS 3 true) <|
  hop ⟨k0_dev11 d, k0_dev11_lt d⟩ ⟨k0_dev12 d, k0_dev12_lt d⟩
    (outB bOut (k0_off7 d 1#32) (k0_off7_inb d 1)) (outB bOut (k0_off7 d 1#32) (k0_off7_inb d 1))
    (outB bOut (k0_off8 d 1#32) (k0_off8_inb d 1)) (outB bOut (k0_off8 d 1#32) (k0_off8_inb d 1)) rfl rfl
    (sendS 4 false) (recvS 4 false) (sendS 4 true) (recvS 4 true) <|
  hop ⟨k0_dev13 d, k0_dev13_lt d⟩ ⟨k0_dev14 d, k0_dev14_lt d⟩
    (outB bOut (k0_off7 d 2#32) (k0_off7_inb d 2)) (outB bOut (k0_off7 d 2#32) (k0_off7_inb d 2))
    (outB bOut (k0_off8 d 2#32) (k0_off8_inb d 2)) (outB bOut (k0_off8 d 2#32) (k0_off8_inb d 2)) rfl rfl
    (sendS 5 false) (recvS 5 false) (sendS 5 true) (recvS 5 true) <|
  .ret ⟨⟩

/-- The normalisation and what follows. -/
def tail2 (d : Dev nD) (gm : VB S2048) : PR F :=
  norm bW bP bR gm (chunk3 bRr ![2, 0, 0] inb_S3x2048x1024_S1x1024x1024_2_0_0)
    (chunk3 bRl ![2, 0, 0] inb_S3x2048x1024_S1x1024x1024_2_0_0)
    (parF bPar (k0_off5 d 0#32) (k0_off5_inb d 0)) (rowC bRes (k0_off6 d 0#32) (k0_off6_inb d 0))
    (rowC bOut (k0_off6 d 0#32) (k0_off6_inb d 0)) <|
  norm bW bP bR gm (chunk3 bRr ![2, 1024, 0] inb_S3x2048x1024_S1x1024x1024_2_1024_0)
    (chunk3 bRl ![2, 1024, 0] inb_S3x2048x1024_S1x1024x1024_2_1024_0)
    (parF bPar (k0_off5 d 1024#32) (k0_off5_inb d 1)) (rowC bRes (k0_off6 d 1024#32) (k0_off6_inb d 1))
    (rowC bOut (k0_off6 d 1024#32) (k0_off6_inb d 1)) <|
  tail3 d

/-- The second and third hops of the first phase and what follows. -/
def tail1 (d : Dev nD) (gm : VB S2048) : PR F :=
  acc bW bP bR (chunk3 bRr ![0, 0, 0] inb_S3x2048x1024_S1x1024x1024_0_0_0)
    (chunk3 bRl ![0, 0, 0] inb_S3x2048x1024_S1x1024x1024_0_0_0)
    (parC bPar (k0_off3 d 1#32 0#32) (k0_off3_inb d 0 0)) (parC bPar (k0_off4 d 1#32 0#32) (k0_off4_inb d 0 0))
    (chunk2 bSr ![0, 0, 0] inb_S2x2048x1024_S1x1024x1024_0_0_0)
    (chunk2 bSl ![0, 0, 0] inb_S2x2048x1024_S1x1024x1024_0_0_0) <|
  acc bW bP bR (chunk3 bRr ![0, 1024, 0] inb_S3x2048x1024_S1x1024x1024_0_1024_0)
    (chunk3 bRl ![0, 1024, 0] inb_S3x2048x1024_S1x1024x1024_0_1024_0)
    (parC bPar (k0_off3 d 1#32 1024#32) (k0_off3_inb d 0 1)) (parC bPar (k0_off4 d 1#32 1024#32) (k0_off4_inb d 0 1))
    (chunk2 bSr ![0, 1024, 0] inb_S2x2048x1024_S1x1024x1024_0_1024_0)
    (chunk2 bSl ![0, 1024, 0] inb_S2x2048x1024_S1x1024x1024_0_1024_0) <|
  hop ⟨k0_dev5 d, k0_dev5_lt d⟩ ⟨k0_dev6 d, k0_dev6_lt d⟩
    (slot2 bSr ![0, 0, 0] inb_S2x2048x1024_S1x2048x1024_0_0_0) (slot3 bRr ![1, 0, 0] inb_S3x2048x1024_S1x2048x1024_1_0_0)
    (slot2 bSl ![0, 0, 0] inb_S2x2048x1024_S1x2048x1024_0_0_0) (slot3 bRl ![1, 0, 0] inb_S3x2048x1024_S1x2048x1024_1_0_0)
    rfl rfl (sendS 1 false) (recvS 1 false) (sendS 1 true) (recvS 1 true) <|
  acc bW bP bR (chunk3 bRr ![1, 0, 0] inb_S3x2048x1024_S1x1024x1024_1_0_0)
    (chunk3 bRl ![1, 0, 0] inb_S3x2048x1024_S1x1024x1024_1_0_0)
    (parC bPar (k0_off3 d 2#32 0#32) (k0_off3_inb d 1 0)) (parC bPar (k0_off4 d 2#32 0#32) (k0_off4_inb d 1 0))
    (chunk2 bSr ![1, 0, 0] inb_S2x2048x1024_S1x1024x1024_1_0_0)
    (chunk2 bSl ![1, 0, 0] inb_S2x2048x1024_S1x1024x1024_1_0_0) <|
  acc bW bP bR (chunk3 bRr ![1, 1024, 0] inb_S3x2048x1024_S1x1024x1024_1_1024_0)
    (chunk3 bRl ![1, 1024, 0] inb_S3x2048x1024_S1x1024x1024_1_1024_0)
    (parC bPar (k0_off3 d 2#32 1024#32) (k0_off3_inb d 1 1)) (parC bPar (k0_off4 d 2#32 1024#32) (k0_off4_inb d 1 1))
    (chunk2 bSr ![1, 1024, 0] inb_S2x2048x1024_S1x1024x1024_1_1024_0)
    (chunk2 bSl ![1, 1024, 0] inb_S2x2048x1024_S1x1024x1024_1_1024_0) <|
  hop ⟨k0_dev7 d, k0_dev7_lt d⟩ ⟨k0_dev8 d, k0_dev8_lt d⟩
    (slot2 bSr ![1, 0, 0] inb_S2x2048x1024_S1x2048x1024_1_0_0) (slot3 bRr ![2, 0, 0] inb_S3x2048x1024_S1x2048x1024_2_0_0)
    (slot2 bSl ![1, 0, 0] inb_S2x2048x1024_S1x2048x1024_1_0_0) (slot3 bRl ![2, 0, 0] inb_S3x2048x1024_S1x2048x1024_2_0_0)
    rfl rfl (sendS 2 false) (recvS 2 false) (sendS 2 true) (recvS 2 true) <|
  tail2 d gm

/-- The body on device `d`. -/
def tail0 (d : Dev nD) (gm : VB S2048) : PR F :=
  shake ⟨k0_dev1 d, k0_dev1_lt d⟩ ⟨k0_dev2 d, k0_dev2_lt d⟩ <|
  hop ⟨k0_dev3 d, k0_dev3_lt d⟩ ⟨k0_dev4 d, k0_dev4_lt d⟩
    (parB bPar (k0_off1 d) (k0_off1_inb d)) (slot3 bRr ![0, 0, 0] inb_S3x2048x1024_S1x2048x1024_0_0_0)
    (parB bPar (k0_off2 d) (k0_off2_inb d)) (slot3 bRl ![0, 0, 0] inb_S3x2048x1024_S1x2048x1024_0_0_0)
    rfl rfl (sendS 0 false) (recvS 0 false) (sendS 0 true) (recvS 0 true) <|
  tail1 d gm

/-- The body is the chain of its segments. -/
theorem body_chain (gm : VB S2048) (hgm : gm.IsWhole) :
    cc0_body_skel (F := F) bPar (Memref.isWhole_whole _) bRes (Memref.isWhole_whole _) gm hgm bOut
      (Memref.isWhole_whole _) bRr (Memref.isWhole_whole _) bRl (Memref.isWhole_whole _) bSr (Memref.isWhole_whole _)
      bSl (Memref.isWhole_whole _) bW (Memref.isWhole_whole _) bP (Memref.isWhole_whole _) bR (Memref.isWhole_whole _)
      cc0_scratch3 cc0_scratch4 cc0_scratch5 cc0_scratch6 cc0_scratch7
      = .op .deviceId fun d => tail0 d gm := by
  rfl

end Cert.KernelIdeal.Ring
-- ==== Proof.RunI.Common.lean ====
/-
The ring: the devices' neighbours, the regions and the contents of every transfer, the semaphores' schedule, what a
device owes at launch, and the order in which it may wait.
-/
module

public import proofs.«01_k».proof.Proof.RunI.Prog
public import Idealize.ShloMosaic.Lib.ValueIdxCore

@[expose] public section

set_option maxRecDepth 16384

noncomputable section

namespace Cert.KernelIdeal.Ring

open Cert.KernelIdeal Cert.KernelIdeal.Gen
open Idealize.ShloMosaic
open Idealize.ShloMosaic.TcCoe
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ring's own ghost state. -/
abbrev UB : Type := URounds (GSem nD τ sig) Bool
/-- The ghost state: the pipeline's, the ring's, the local copies'. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (Emb.inl : Emb UB (UB × Counters)).trans embR
instance ER_lands : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch. -/
def s₀ : MemSt nD τ sig (Elt F) := ⟨m, fun _ => 0, ρ⟩

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The device a transfer in direction `b` goes to. -/
def nb (c : Dev nD) (b : Bool) : Dev nD := if b then prv c else nxt c
/-- The device a transfer in direction `b` comes from. -/
def fr (c : Dev nD) (b : Bool) : Dev nD := if b then nxt c else prv c

theorem nb_fr (c : Dev nD) (b : Bool) : nb (fr c b) b = c := by revert c b; decide
theorem fr_nb (c : Dev nD) (b : Bool) : fr (nb c b) b = c := by revert c b; decide
@[simp] theorem nb_false (c : Dev nD) : nb c false = nxt c := rfl
@[simp] theorem nb_true (c : Dev nD) : nb c true = prv c := rfl
@[simp] theorem fr_false (c : Dev nD) : fr c false = prv c := rfl
@[simp] theorem fr_true (c : Dev nD) : fr c true = nxt c := rfl

/-- The ring as a permutation: the neighbour in direction `b`. -/
def ring (b : Bool) : Dev nD ≃ Dev nD := ⟨fun c => nb c b, fun c => fr c b, fun c => fr_nb c b, fun c => nb_fr c b⟩

/-! ## The regions of the transfers -/

/-- What device `c` reads at hop `h` in direction `b`. -/
def srcM (c : Dev nD) : Fin 6 → Bool → HB S2048x1024
  | 0, false => parB bPar (k0_off1 c) (k0_off1_inb c)
  | 0, true => parB bPar (k0_off2 c) (k0_off2_inb c)
  | 1, false => slot2 bSr ![0, 0, 0] inb_S2x2048x1024_S1x2048x1024_0_0_0
  | 1, true => slot2 bSl ![0, 0, 0] inb_S2x2048x1024_S1x2048x1024_0_0_0
  | 2, false => slot2 bSr ![1, 0, 0] inb_S2x2048x1024_S1x2048x1024_1_0_0
  | 2, true => slot2 bSl ![1, 0, 0] inb_S2x2048x1024_S1x2048x1024_1_0_0
  | 3, false => outB bOut (k0_off7 c 0#32) (k0_off7_inb c 0)
  | 3, true => outB bOut (k0_off8 c 0#32) (k0_off8_inb c 0)
  | 4, false => outB bOut (k0_off7 c 1#32) (k0_off7_inb c 1)
  | 4, true => outB bOut (k0_off8 c 1#32) (k0_off8_inb c 1)
  | 5, false => outB bOut (k0_off7 c 2#32) (k0_off7_inb c 2)
  | 5, true => outB bOut (k0_off8 c 2#32) (k0_off8_inb c 2)

/-- What device `c` writes at its neighbour at hop `h` in direction `b`. -/
def tgtM (c : Dev nD) : Fin 6 → Bool → HB S2048x1024
  | 0, false => slot3 bRr ![0, 0, 0] inb_S3x2048x1024_S1x2048x1024_0_0_0
  | 0, true => slot3 bRl ![0, 0, 0] inb_S3x2048x1024_S1x2048x1024_0_0_0
  | 1, false => slot3 bRr ![1, 0, 0] inb_S3x2048x1024_S1x2048x1024_1_0_0
  | 1, true => slot3 bRl ![1, 0, 0] inb_S3x2048x1024_S1x2048x1024_1_0_0
  | 2, false => slot3 bRr ![2, 0, 0] inb_S3x2048x1024_S1x2048x1024_2_0_0
  | 2, true => slot3 bRl ![2, 0, 0] inb_S3x2048x1024_S1x2048x1024_2_0_0
  | 3, false => outB bOut (k0_off7 c 0#32) (k0_off7_inb c 0)
  | 3, true => outB bOut (k0_off8 c 0#32) (k0_off8_inb c 0)
  | 4, false => outB bOut (k0_off7 c 1#32) (k0_off7_inb c 1)
  | 4, true => outB bOut (k0_off8 c 1#32) (k0_off8_inb c 1)
  | 5, false => outB bOut (k0_off7 c 2#32) (k0_off7_inb c 2)
  | 5, true => outB bOut (k0_off8 c 2#32) (k0_off8_inb c 2)

theorem tgt_scratch (c : Dev nD) (h : Fin 6) (b : Bool) : (tgtM c h b).view.ref.isScScratch = false := by
  fin_cases h <;> cases b <;> rfl

/-- The credit of one transfer. -/
def N : ℕ := (slot3 bRr ![0, 0, 0] inb_S3x2048x1024_S1x2048x1024_0_0_0).view.dmaCredit

theorem N_pos : 0 < N := by
  unfold N; exact View.dmaCredit_pos _ (by decide)

theorem src_credit (c : Dev nD) (h : Fin 6) (b : Bool) : (srcM c h b).view.dmaCredit = N := by
  fin_cases h <;> cases b <;> rfl

theorem tgt_credit (c : Dev nD) (h : Fin 6) (b : Bool) : (tgtM c h b).view.dmaCredit = N := by
  fin_cases h <;> cases b <;> rfl

/-- The share of the source that a transfer reads: the two transfers of the first hop read one buffer. -/
def srcQ (h : Fin 6) (b : Bool) : PosShare TreeShare :=
  if h = 0 then (if b then fullShare.right else fullShare.left) else fullShare

/-! ## Contents -/

/-- The device's partial sums at launch. -/
def pm (c : Dev nD) : Vec F S1x8192x2048 .f32 := m ((c : Thread nD τ).loc main_arg0)
/-- The residual at launch. -/
def rm (c : Dev nD) : Vec F S8192x2048 .f32 := m ((c : Thread nD τ).loc main_arg1)
/-- The weights at launch. -/
def gm (c : Dev nD) : Vec F S2048 .f32 := m ((c : Thread nD τ).loc main_arg2)

/-- The corner of the half block that device `c` adds at step `s` in direction `b`. -/
def oB (c : Dev nD) (s : Fin 3) (b : Bool) : Fin 3 → ℕ :=
  ![0, 2048 * (if b then (c.val + 1 + s.val) % 4 else (c.val + 3 - s.val) % 4), if b then 1024 else 0]

set_option backward.proofsInPublic true in
theorem oB_inb : ∀ (c : Dev nD) (s : Fin 3) (b : Bool), ∀ a, oB c s b a + S1x2048x1024.size a ≤ S1x8192x2048.size a := by
  decide +kernel

/-- The half block that device `c` adds at step `s` in direction `b`. -/
def part (c : Dev nD) (s : Fin 3) (b : Bool) : Vec F S2048x1024 .f32 :=
  (parB bPar (oB c s b) (oB_inb c s b)).view.read (Elt F) (pm m c)

/-- What device `c` sends at the first, second and third hop. -/
def sum0 (c : Dev nD) (b : Bool) : Vec F S2048x1024 .f32 := part m c 0 b
def sum1 (c : Dev nD) (b : Bool) : Vec F S2048x1024 .f32 :=
  addf (sum0 m (fr c b) b : FVec F S2048x1024 .f32) (part m c 1 b)
def sum2 (c : Dev nD) (b : Bool) : Vec F S2048x1024 .f32 :=
  addf (sum1 m (fr c b) b : FVec F S2048x1024 .f32) (part m c 2 b)

/-- Row `i` of chunk `r` of a half block, column `j`. -/
abbrev rowIx (r : Fin 2) (i : Fin 1024) (j : Fin 1024) : S2048x1024.Idx :=
  ix2 (⟨1024 * r.val + i.val, by have := r.isLt; have := i.isLt; omega⟩ : Fin 2048) j

/-- Chunk `r` of the rows of a half block. -/
def rows {α : Type} (x : S2048x1024.Idx → α) (r : Fin 2) : S1024x1024.Idx → α := fun j => x (rowIx r (j 0) (j 1))

/-- Two chunks side by side. -/
def glue {α : Type} (x y : S1024x1024.Idx → α) : S1024x2048.Idx → α := fun j =>
  if h : (j 1).val < 1024 then x (ix2 (j 0 : Fin 1024) (⟨(j 1).val, h⟩ : Fin 1024))
  else y (ix2 (j 0 : Fin 1024) (⟨(j 1).val - 1024, by have h1 : (j 1).val < 2048 := (j 1).isLt; omega⟩ : Fin 1024))

/-- The columns of the left half and of the right half of a wide chunk. -/
def half {α : Type} (x : S1024x2048.Idx → α) (b : Bool) : S1024x1024.Idx → α := fun j =>
  x (ix2 (j 0 : Fin 1024) (⟨(if b then 1024 else 0) + (j 1).val, by
    have h1 : (j 1).val < 1024 := (j 1).isLt; split <;> omega⟩ : Fin 2048))

/-- The sum that arrives last at device `c`, chunk `r` of its rows. -/
def lastW (c : Dev nD) (r : Fin 2) : Vec F S1024x2048 .f32 :=
  glue (rows (sum2 m (prv c) false) r) (rows (sum2 m (nxt c) true) r)
/-- The device's own part of its block. -/
def ownP (c : Dev nD) (r : Fin 2) : Vec F S1024x2048 .f32 :=
  (parF bPar (k0_off5 c (BitVec.ofNat 32 (1024 * r.val))) (k0_off5_inb c r)).view.read (Elt F) (pm m c)
/-- The residual's part of its block. -/
def ownR (c : Dev nD) (r : Fin 2) : Vec F S1024x2048 .f32 :=
  (rowC bRes (k0_off6 c (BitVec.ofNat 32 (1024 * r.val))) (k0_off6_inb c r)).view.read (Elt F) (rm m c)

/-- The normalised chunk `r` of device `c`'s block. -/
def nchunk (c : Dev nD) (r : Fin 2) : Vec F S1024x2048 .f32 := normOf (lastW m c r) (ownP m c r) (ownR m c r) (gm m c)

/-- The result: every device's normalised chunks. -/
def outF : Vec F S8192x2048 .f32 := fun i =>
  nchunk m (⟨(i 0).val / 2048, by have h : (i 0).val < 8192 := (i 0).isLt; show _ < 4; omega⟩ : Dev nD)
    (⟨(i 0).val % 2048 / 1024, by omega⟩ : Fin 2)
    (ix2 (⟨(i 0).val % 1024, by omega⟩ : Fin 1024) (i 1 : Fin 2048))

/-- What device `c` sends at hop `h` in direction `b`. -/
def cont (c : Dev nD) : Fin 6 → Bool → Vec F S2048x1024 .f32
  | 0, b => sum0 m c b
  | 1, b => sum1 m c b
  | 2, b => sum2 m c b
  | 3, false => (outB bOut (k0_off7 c 0#32) (k0_off7_inb c 0)).view.read (Elt F) (outF m)
  | 3, true => (outB bOut (k0_off8 c 0#32) (k0_off8_inb c 0)).view.read (Elt F) (outF m)
  | 4, false => (outB bOut (k0_off7 c 1#32) (k0_off7_inb c 1)).view.read (Elt F) (outF m)
  | 4, true => (outB bOut (k0_off8 c 1#32) (k0_off8_inb c 1)).view.read (Elt F) (outF m)
  | 5, false => (outB bOut (k0_off7 c 2#32) (k0_off7_inb c 2)).view.read (Elt F) (outF m)
  | 5, true => (outB bOut (k0_off8 c 2#32) (k0_off8_inb c 2)).view.read (Elt F) (outF m)

end Cert.KernelIdeal.Ring
-- ==== Proof.RunI.Cells.lean ====
/-
The ring's semaphores: their schedule, what a device owes its neighbours, the levels, the ghost state of a hop.
-/
module

public import proofs.«01_k».proof.Proof.RunI.Common

@[expose] public section

set_option maxRecDepth 16384

noncomputable section

namespace Cert.KernelIdeal.Ring

open Cert.KernelIdeal Cert.KernelIdeal.Gen
open Idealize.ShloMosaic
open Idealize.ShloMosaic.TcCoe
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores' schedule -/

/-- The ring's semaphores on one device: the barrier, and of every hop and direction the send semaphore (`false`) and
    the receive semaphore (`true`). -/
abbrev CK : Type := Option (Bool × Fin 6 × Bool)

def csem : CK → SemLoc sig
  | none => .reg barS
  | some (false, h, b) => .dma (sendS h b)
  | some (true, h, b) => .dma (recvS h b)

theorem csem_inj : Function.Injective csem := by decide +kernel

/-- The ring's semaphore at a place. -/
def dec (s : SemLoc sig) : Option CK :=
  haveI := Classical.propDecidable (∃ k, csem k = s)
  if h : ∃ k, csem k = s then some h.choose else none

theorem dec_csem (k : CK) : dec (csem k) = some k := by
  unfold dec
  have h : ∃ k', csem k' = csem k := ⟨k, rfl⟩
  rw [dif_pos h]
  exact congrArg some (csem_inj h.choose_spec)

abbrev barC (c : Dev nD) : GSem nD τ sig := ((c : Thread nD τ), .reg barS)
abbrev sendC (c : Dev nD) (h : Fin 6) (b : Bool) : GSem nD τ sig := ((c : Thread nD τ), .dma (sendS h b))
abbrev recvC (c : Dev nD) (h : Fin 6) (b : Bool) : GSem nD τ sig := ((c : Thread nD τ), .dma (recvS h b))
abbrev kcell (ck : Dev nD × CK) : GSem nD τ sig := ((ck.1 : Thread nD τ), csem ck.2)

/-- A memref of a device, held in full at some contents. -/
def hole (c : Dev nD) (M : HB S2048x1024) : sProp 𝕄 := iprop(∃ X, owns (c : Thread nD τ) M fullShare X)

/-- What the neighbour that pays duty `b` of device `c`'s barrier hands over: everything device `c` writes there. -/
def barPay (c : Dev nD) (b : Bool) : sProp 𝕄 := bigSep Finset.univ fun h : Fin 6 => hole (nb c b) (tgtM c h b)
/-- What the end of a transfer gives back at its source. -/
def sendPay (c : Dev nD) (h : Fin 6) (b : Bool) : sProp 𝕄 :=
  owns (c : Thread nD τ) (srcM c h b) (srcQ h b) (cont m c h b)
/-- What a transfer brings. -/
def recvPay (c : Dev nD) (h : Fin 6) (b : Bool) : sProp 𝕄 :=
  owns (c : Thread nD τ) (tgtM (fr c b) h b) fullShare (cont m (fr c b) h b)

instance barPay_st (c : Dev nD) (b : Bool) : BI.Storable (upEmb : UEmb _ 𝕄) (barPay (F := F) c b) := by
  unfold barPay hole; infer_instance
instance sendPay_st (c : Dev nD) (h : Fin 6) (b : Bool) : BI.Storable (upEmb : UEmb _ 𝕄) (sendPay m c h b) := by
  unfold sendPay; infer_instance
instance recvPay_st (c : Dev nD) (h : Fin 6) (b : Bool) : BI.Storable (upEmb : UEmb _ 𝕄) (recvPay m c h b) := by
  unfold recvPay; infer_instance

/-- What duty `d` of a semaphore is paid with. -/
def payOf (c : Dev nD) (d : Bool) : Option CK → sProp 𝕄
  | some none => barPay c d
  | some (some (false, h, b)) => sendPay m c h b
  | some (some (true, h, b)) => recvPay m c h b
  | none => iprop(emp)

instance payOf_st (c : Dev nD) (d : Bool) (k : Option CK) : BI.Storable (upEmb : UEmb _ 𝕄) (payOf m c d k) := by
  rcases k with _ | _ | ⟨_ | _, h, b⟩ <;> dsimp only [payOf] <;> infer_instance

/-- The duties of a semaphore. -/
def dutyOf : Option CK → Finset Bool
  | some none => Finset.univ
  | some (some _) => {false}
  | none => ∅
/-- The units of one duty. -/
def amtOf : Option CK → ℕ
  | some (some _) => N
  | _ => 1

/-- One round for every semaphore of the ring. -/
def Rd : Rounds.Schedule (GSem nD τ sig) Bool 𝕄 where
  duties g r := if r = 0 ∧ g.1.2 = .tc then dutyOf (dec g.2) else ∅
  unitless _ := False
  amount g _ _ := amtOf (dec g.2)
  payload g _ d := payOf m g.1.1 d (dec g.2)
  amount_pos g _ _ _ := by
    rcases dec g.2 with _ | _ | _
    · exact Nat.one_pos
    · exact Nat.one_pos
    · exact N_pos

instance Rd_st (g : GSem nD τ sig) (r : ℕ) (d : Bool) : BI.Storable (upEmb : UEmb _ 𝕄) ((Rd m).payload g r d) :=
  payOf_st m g.1.1 d (dec g.2)

theorem duties_k (c : Dev nD) (k : CK) : (Rd (F := F) m).duties (kcell (c, k)) 0 = dutyOf (some k) := by
  dsimp only [Rd]
  rw [if_pos ⟨rfl, rfl⟩, dec_csem]
theorem duties_later (g : GSem nD τ sig) : ∀ r, 1 ≤ r → (Rd (F := F) m).duties g r = ∅ :=
  fun r hr => by dsimp only [Rd]; exact if_neg fun h => by omega
theorem amount_k (c : Dev nD) (k : CK) (d : Bool) : (Rd (F := F) m).amount (kcell (c, k)) 0 d = amtOf (some k) := by
  show amtOf (dec (csem k)) = _
  rw [dec_csem]
theorem payload_k (c : Dev nD) (k : CK) (d : Bool) : (Rd (F := F) m).payload (kcell (c, k)) 0 d = payOf m c d (some k) := by
  show payOf m c d (dec (csem k)) = _
  rw [dec_csem]

theorem duties_bar (c : Dev nD) : (Rd (F := F) m).duties (barC c) 0 = Finset.univ := duties_k m c none
theorem duties_send (c : Dev nD) (h : Fin 6) (b : Bool) : (Rd (F := F) m).duties (sendC c h b) 0 = {false} :=
  duties_k m c (some (false, h, b))
theorem duties_recv (c : Dev nD) (h : Fin 6) (b : Bool) : (Rd (F := F) m).duties (recvC c h b) 0 = {false} :=
  duties_k m c (some (true, h, b))
theorem amount_bar (c : Dev nD) (d : Bool) : (Rd (F := F) m).amount (barC c) 0 d = 1 := amount_k m c none d
theorem amount_send (c : Dev nD) (h : Fin 6) (b d : Bool) : (Rd (F := F) m).amount (sendC c h b) 0 d = N :=
  amount_k m c (some (false, h, b)) d
theorem amount_recv (c : Dev nD) (h : Fin 6) (b d : Bool) : (Rd (F := F) m).amount (recvC c h b) 0 d = N :=
  amount_k m c (some (true, h, b)) d
theorem payload_bar (c : Dev nD) (d : Bool) : (Rd (F := F) m).payload (barC c) 0 d = barPay c d := payload_k m c none d
theorem payload_send (c : Dev nD) (h : Fin 6) (b d : Bool) :
    (Rd (F := F) m).payload (sendC c h b) 0 d = sendPay m c h b := payload_k m c (some (false, h, b)) d
theorem payload_recv (c : Dev nD) (h : Fin 6) (b d : Bool) :
    (Rd (F := F) m).payload (recvC c h b) 0 d = recvPay m c h b := payload_k m c (some (true, h, b)) d
theorem expect_bar (c : Dev nD) : (Rd (F := F) m).expect (barC c) 0 = 2 := by
  unfold Schedule.expect Schedule.amountOf
  rw [show barC c = kcell (c, none) from rfl, duties_k, Finset.sum_congr rfl fun d _ => amount_k m c none d]
  simp only [dutyOf, amtOf, Finset.sum_const, Finset.card_univ, Fintype.card_bool, smul_eq_mul]
theorem expect_x (c : Dev nD) (x : Bool × Fin 6 × Bool) : (Rd (F := F) m).expect (kcell (c, some x)) 0 = N := by
  unfold Schedule.expect Schedule.amountOf
  rw [duties_k, Finset.sum_congr rfl fun d _ => amount_k m c (some x) d]
  simp only [dutyOf, amtOf, Finset.sum_singleton]

theorem rest_bar (c : Dev nD) :
    bigSep ((Rd (F := F) m).duties (barC c) 0 \ ∅) (fun d => (Rd (F := F) m).payload (barC c) 0 d)
      = iprop(barPay c false ∗ barPay c true) := by
  rw [Finset.sdiff_empty, show barC c = kcell (c, none) from rfl, duties_k]
  show bigSep Finset.univ _ = _
  rw [bigSep_univ_eq_bigSepL [false, true] (by decide) (by decide), bigSepL_cons_cons, bigSepL_singleton]
  simp only [payload_k]
  rfl
theorem rest_x (c : Dev nD) (x : Bool × Fin 6 × Bool) :
    bigSep ((Rd (F := F) m).duties (kcell (c, some x)) 0 \ ∅) (fun d => (Rd (F := F) m).payload (kcell (c, some x)) 0 d)
      = payOf m c false (some (some x)) := by
  rw [Finset.sdiff_empty, duties_k]
  show bigSep {false} _ = _
  rw [bigSep_singleton, payload_k]

/-! ## What a device owes, and the levels -/

/-- The credit of the transfer of hop `h` in direction `b`. -/
abbrev owedX (c : Dev nD) (h : Fin 6) (b : Bool) : CellTallies nD τ sig Unit := tallyAt (recvC (nb c b) h b) () N

/-- What device `c` owes its neighbours' receive semaphores before hop `k`. -/
def debt (c : Dev nD) (k : ℕ) : CellTallies nD τ sig Unit :=
  ∑ h ∈ Finset.univ.filter (fun h : Fin 6 => k ≤ h.val), (owedX c h true + owedX c h false)

theorem debt_step (c : Dev nD) (h : Fin 6) : debt c h.val = (debt c (h.val + 1) + owedX c h true) + owedX c h false := by
  unfold debt
  have : Finset.univ.filter (fun h' : Fin 6 => h.val ≤ h'.val)
      = insert h (Finset.univ.filter (fun h' : Fin 6 => h.val + 1 ≤ h'.val)) := by
    ext x; simp only [Finset.mem_filter, Finset.mem_univ, true_and, Finset.mem_insert, Fin.ext_iff]; omega
  rw [this, Finset.sum_insert (by simp), add_comm (owedX c h true + _), add_assoc]

theorem debt_end (c : Dev nD) : debt c 6 = 0 := by
  unfold debt
  rw [Finset.filter_false_of_mem (fun x _ => by have := x.isLt; omega), Finset.sum_empty]

/-- After the first signal; at launch. -/
def O₁ (c : Dev nD) : CellTallies nD τ sig Unit := debt c 0 + tallyAt (barC (nxt c)) () 1
def O₀ (c : Dev nD) : CellTallies nD τ sig Unit := O₁ c + tallyAt (barC (prv c)) () 1

def L (g : GSem nD τ sig) : Finset Unit := if g.1.2 = .tc then {()} else ∅
/-- The level of a semaphore. -/
def lvOf : Option CK → ℕ
  | some none => 1
  | some (some (true, h, _)) => 2 + h.val
  | _ => 0
def lv (g : GSem nD τ sig) (_ : Unit) : ℕ := lvOf (dec g.2)

theorem lvOf_bar : lvOf (dec (.reg barS)) = 1 := congrArg lvOf (dec_csem none)
theorem lvOf_send (h : Fin 6) (b : Bool) : lvOf (dec (.dma (sendS h b))) = 0 := congrArg lvOf (dec_csem (some (false, h, b)))
theorem lvOf_recv (h : Fin 6) (b : Bool) : lvOf (dec (.dma (recvS h b))) = 2 + h.val :=
  congrArg lvOf (dec_csem (some (true, h, b)))

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CK) (u : Unit) : lv (kcell (c, k)) u = lvOf (some k) := by
  unfold lv; rw [dec_csem]

theorem debt_pos {c : Dev nD} {k : ℕ} {g : GSem nD τ sig} {u : Unit} (hp : 0 < debt c k g u) :
    ∃ (h : Fin 6) (b : Bool), k ≤ h.val ∧ g = recvC (nb c b) h b := by
  unfold debt at hp
  rw [Finset.sum_apply, Finsupp.finset_sum_apply] at hp
  obtain ⟨h, hh, hne⟩ := Finset.exists_ne_zero_of_sum_ne_zero (Nat.pos_iff_ne_zero.mp hp)
  rw [Pi.add_apply, Finsupp.add_apply, tallyAt_apply, tallyAt_apply] at hne
  have hk := (Finset.mem_filter.mp hh).2
  by_cases h1 : g = recvC (nb c true) h true ∧ u = ()
  · exact ⟨h, true, hk, h1.1⟩
  · by_cases h2 : g = recvC (nb c false) h false ∧ u = ()
    · exact ⟨h, false, hk, h2.1⟩
    · rw [if_neg h1, if_neg h2] at hne; exact absurd rfl hne

theorem O₀_pos {c : Dev nD} {g : GSem nD τ sig} {u : Unit} (hp : 0 < O₀ c g u) :
    (∃ (h : Fin 6) (b : Bool), g = recvC (nb c b) h b) ∨ ∃ b : Bool, g = barC (nb c b) := by
  unfold O₀ O₁ at hp
  rw [Pi.add_apply, Finsupp.add_apply, Pi.add_apply, Finsupp.add_apply, tallyAt_apply, tallyAt_apply] at hp
  by_cases h1 : g = barC (nxt c) ∧ u = ()
  · exact .inr ⟨false, h1.1⟩
  · by_cases h2 : g = barC (prv c) ∧ u = ()
    · exact .inr ⟨true, h2.1⟩
    · rw [if_neg h1, if_neg h2] at hp
      obtain ⟨h, b, -, hg⟩ := debt_pos (k := 0) (c := c) (g := g) (u := u) (by omega)
      exact .inl ⟨h, b, hg⟩

/-- A device may wait at a semaphore of level at most `l` while it owes only receive semaphores from hop `k` on. -/
theorem mayWait_debt (c : Dev nD) (sm : SemLoc sig) (k l : ℕ) (hl : lvOf (dec sm) ≤ l) (hk : l < 2 + k) :
    (levAts L lv : sProp 𝕄) ⊢ MayWait (c : Thread nD τ) sm () (debt c k) :=
  MayOwe.of_cut (L := L) (lev := lv) l (fun p hp => by rw [Finset.mem_singleton.mp hp, L_tc]; exact Finset.mem_singleton_self _)
    (fun g u hg => by obtain ⟨h, b, -, rfl⟩ := debt_pos hg; exact Finset.mem_singleton_self _)
    (fun p hp => by rw [Finset.mem_singleton.mp hp]; exact hl)
    (fun g u hg => by
      obtain ⟨h, b, hh, rfl⟩ := debt_pos hg
      rw [show recvC (nb c b) h b = kcell (nb c b, some (true, h, b)) from rfl, lv_k]
      show l < 2 + h.val; omega)

/-- At launch a device may wait at a semaphore outside the ring. -/
theorem mayWait_stage (c : Dev nD) (sm : SemLoc sig) (hs : lvOf (dec sm) = 0) (O : CellTallies nD τ sig Unit)
    (hO : O = O₀ c ∨ O = 0) : (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨h, b, rfl⟩ | ⟨b, rfl⟩ <;> exact Finset.mem_singleton_self _)
      (fun p hp => by rw [Finset.mem_singleton.mp hp]; exact le_of_eq hs)
      (fun g u hg => by
        rcases O₀_pos hg with ⟨h, b, rfl⟩ | ⟨b, rfl⟩
        · rw [show recvC (nb c b) h b = kcell (nb c b, some (true, h, b)) from rfl, lv_k]; show 0 < 2 + h.val; omega
        · rw [show barC (nb c b) = kcell (nb c b, none) from rfl, lv_k]; show 0 < 1; omega)
  · rw [MayWait_zero]; iintro -; iempintro

/-- The places of the copies' semaphores are outside the ring. -/
theorem dec_copy (i : Fin 4) : dec (.dma (copyS i)) = none := by
  have : ¬ ∃ k, csem k = .dma (copyS i) := by revert i; decide +kernel
  unfold dec; exact dif_neg this

theorem dec_stage : dec (.dma (⟨0, by show 0 < 29; omega⟩ : DmaSem sig)) = none := by
  have : ¬ ∃ k, csem k = .dma (⟨0, by show 0 < 29; omega⟩ : DmaSem sig) := by decide +kernel
  unfold dec; exact dif_neg this

/-! ## The ghost state of the body -/

variable (K : Dev nD × CK → ℕ)

/-- What every device knows of the ring's semaphores: their invariants, and that round 0 is reached. -/
def records : sProp 𝕄 :=
  iprop((bigSep Finset.univ fun ck : Dev nD × CK => cellInv ER (Rd m) (K ck) (kcell ck))
    ∗ bigSep Finset.univ fun ck : Dev nD × CK => reached ER (kcell ck) 0)

instance records_pers : BI.Persistent (records m K) := by unfold records; infer_instance

theorem rec_inv (ck : Dev nD × CK) : records m K ⊢ cellInv ER (Rd m) (K ck) (kcell ck) := by
  unfold records
  iintro ⟨H, -⟩
  iapply (show (bigSep Finset.univ fun ck : Dev nD × CK => (cellInv ER (Rd m) (K ck) (kcell ck) : sProp 𝕄))
      ⊢ cellInv ER (Rd m) (K ck) (kcell ck) from bigSep_elim (Finset.mem_univ ck))
  iexact H

theorem rec_reached (ck : Dev nD × CK) : records m K ⊢ reached ER (kcell ck) 0 := by
  unfold records
  iintro ⟨-, H⟩
  iapply (show (bigSep Finset.univ fun ck : Dev nD × CK => (reached ER (kcell ck) 0 : sProp 𝕄))
      ⊢ reached ER (kcell ck) 0 from bigSep_elim (Finset.mem_univ ck))
  iexact H

/-- What device `c` uses for hop `h` in direction `b`: its places at its own two semaphores, the tokens of the duties
    it pays, and the credit of what it is sent. -/
def hopG (c : Dev nD) (h : Fin 6) (b : Bool) : sProp 𝕄 :=
  iprop(atPos ER (sendC c h b) 0 ∅ 0 ∗ atPos ER (recvC c h b) 0 ∅ 0 ∗ dutyTok ER (sendC c h b) 0 false
    ∗ dutyTok ER (recvC (nb c b) h b) 0 false ∗ cred (tallyAt (recvC c h b) () N))

/-- The semaphores of a hop at zero again. -/
def hopZ (c : Dev nD) (h : Fin 6) (b : Bool) : sProp 𝕄 := iprop(semVal (sendC c h b) 0 ∗ semVal (recvC c h b) 0)

/-- A device's debts, whatever it has waited for. -/
abbrev owesE (c : Dev nD) (O : CellTallies nD τ sig Unit) : sProp 𝕄 := iprop(∃ W, owes (c : Thread nD τ) O W)

abbrev 𝒱₀ : Variants := Variants.none

end Cert.KernelIdeal.Ring
-- ==== Proof.RunI.Hop.lean ====
/-
The handshake and one hop of the ring.
-/
module

public import proofs.«01_k».proof.Proof.RunI.Cells

@[expose] public section

set_option maxRecDepth 16384

noncomputable section

namespace Cert.KernelIdeal.Ring

open Cert.KernelIdeal Cert.KernelIdeal.Gen
open Idealize.ShloMosaic
open Idealize.ShloMosaic.TcCoe
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

/-- A program of the body on device `c`. -/
abbrev WP (c : Dev nD) (p : PR F) (Q : PUnit → sProp 𝕄) : sProp 𝕄 :=
  wp frame (wpE (defs₀ (F := F)) 𝒱₀ (c : Thread nD τ) none) Set.univ p Q

/-- The start of a transfer to the neighbour `n`. -/
theorem wp_sendX (c n : Dev nD) (h : Fin 6) (b : Bool) (hn : n = nb c b)
    {hsc : (tgtM c h b).view.ref.isScScratch = false} {hsrc : (srcM c h b).view.WordExact}
    {hdst : (tgtM c h b).view.WordExact}
    {hsem : DmaTarget.Typed .hbm (.dma (recvS h b)) (.remote (Dev.tc n : Thread nD τ) (tgtM c h b) (.dma (sendS h b)) hsc)}
    (kk : PR F) (Q : PUnit → sProp 𝕄) (O O' : CellTallies nD τ sig Unit) (W : Waits sig Unit)
    (hO : O = O' + owedX c h b) :
    iprop(records m K ∗ sendPay m c h b ∗ hole (nb c b) (tgtM c h b) ∗ owes (c : Thread nD τ) O W
        ∗ dutyTok ER (sendC c h b) 0 false ∗ dutyTok ER (recvC (nb c b) h b) 0 false)
      ⊢ iprop(((cred (tallyAt (sendC c h b) () N) ∗ owes (c : Thread nD τ) O' W) -∗ WP c kk Q)
          -∗ WP c (.op (.enqueueDma (srcM c h b) (.remote (Dev.tc n : Thread nD τ) (tgtM c h b) (.dma (sendS h b)) hsc)
              (.dma (recvS h b)) hsrc hdst hsem) fun _ => kk) Q) := by
  subst hn
  unfold hole
  iintro ⟨#HR, Hs, ⟨%X, Ht⟩, HO, HtS, HtR⟩ Hk
  unfold sendPay owns
  icases Hs with ⟨%fs, %hfs, Hs⟩
  icases Ht with ⟨%fd, -, Ht⟩
  iapply (Rounds.wp_send_pointsTo 𝒱₀ ER (Rd m) (c : Thread nD τ) none (q := srcQ h b) (fs := fs) (κ₁ := K (c, some (false, h, b)))
    (κ₂ := K (nb c b, some (true, h, b))) (r₁ := 0) (r₂ := 0) (d₁ := false) (d₂ := false) (fd := fd)
    (by rw [duties_send]; exact Finset.mem_singleton_self _) (by rw [duties_recv]; exact Finset.mem_singleton_self _)
    () () N (show (tgtM c h b).view.amount (.dma (recvS h b)) = N from tgt_credit c h b) (amount_send m c h b false) (amount_recv m (nb c b) h b false)
    O' hO (W := W)
    (by
      rw [payload_send]; unfold sendPay owns
      iintro H; iexists fs; isplitr; · ipureintro; exact hfs
      iexact H)
    (by
      rw [payload_recv]; unfold recvPay owns; rw [fr_nb]
      iintro H; iexists _; isplitr; swap; · iexact H
      ipureintro; rw [View.read_write_univ]; exact hfs)) $$ [Hs Ht HO HtS HtR]
  · isplitr; · iapply (rec_inv m K (c, some (false, h, b))); iexact HR
    isplitr; · iapply (rec_inv m K (nb c b, some (true, h, b))); iexact HR
    isplitl [Hs]; · iexact Hs
    isplitl [Ht]; · iexact Ht
    isplitl [HO]; · iexact HO
    isplitl [HtS]; · iexact HtS
    isplitr; · iapply (rec_reached m K (c, some (false, h, b))); iexact HR
    isplitl [HtR]; · iexact HtR
    iapply (rec_reached m K (nb c b, some (true, h, b))); iexact HR
  iintro H
  iapply Hk; iexact H

/-- The wait for the rest of the round of one of the device's own transfer semaphores, which is closed with it. -/
theorem wp_waitX (c : Dev nD) (x : Bool × Fin 6 × Bool) (sm : DmaSem sig) (hsm : csem (some x) = .dma sm)
    {s' : Shape} {M M' : HB s'} (hM : M'.view.dmaCredit = N) {h₁ : M.view.WordExact} {h₂ : M'.view.WordExact}
    (kk : PR F) (Q : PUnit → sProp 𝕄) (O : CellTallies nD τ sig Unit) (W : Waits sig Unit) :
    iprop(records m K ∗ cred (tallyAt ((c : Thread nD τ), .dma sm) () N) ∗ owes (c : Thread nD τ) O W
        ∗ MayWait (c : Thread nD τ) (.dma sm) () O ∗ atPos ER ((c : Thread nD τ), .dma sm) 0 ∅ 0)
      ⊢ iprop(((owesE c O ∗ payOf m c false (some (some x)) ∗ semVal ((c : Thread nD τ), .dma sm) 0) -∗ WP c kk Q)
          -∗ WP c (.op (.waitDma2 sm M M' h₁ h₂) fun _ => kk) Q) := by
  iintro ⟨#HR, Hc, HO, HM, Hat⟩ Hk
  have hcell : (((c : Thread nD τ), .dma sm) : GSem nD τ sig) = kcell (c, some x) := by rw [← hsm]
  ihave #HI := (rec_inv m K (c, some x)) $$ HR
  rw [← hcell]
  iapply (Rounds.wp_wait_rest_token 𝒱₀ ER (Rd m) (c : Thread nD τ) none (κ := K (c, some x)) (k' := M'.view.dmaCredit)
      (wpE_waitDma2_eq 𝒱₀ (c : Thread nD τ) none Set.univ) (Set.mem_univ _) () (O := O) (W := W) (R := 0) (m := 0) (T := ∅)
      (by rw [hcell, expect_x, Nat.zero_add, hM])) $$ [Hc HO HM Hat]
  · rw [hM]
    isplitr; · iexact HI
    isplitl [Hc]; · iexact Hc
    isplitl [HO]; · iexact HO
    isplitl [HM]; · iexact HM
    iexact Hat
  iintro ⟨HO, Hat, -, Hpay⟩
  imod (Rounds.cell_close ER (Rd m) (Set.mem_univ (K (c, some x))) (fun h => h) (R := 0 + 1) (duties_later m _)) $$ [Hat] with Hz
  · isplitr; · iexact HI
    iexact Hat
  rw [hcell]
  ihave Hp := (Entails.of_eq (rest_x m c x)) $$ Hpay
  iapply Hk
  isplitl [HO]; · iexists _; iexact HO
  isplitl [Hp]; · iexact Hp
  iexact Hz

/-- One hop: both transfers started, all four waits done. -/
theorem wp_hop (c dR dL : Dev nD) (h : Fin 6) (hdR : dR = nxt c) (hdL : dL = prv c) (hR) (hL) (kk : PR F)
    (Q : PUnit → sProp 𝕄) :
    iprop(records m K ∗ levAts L lv ∗ sendPay m c h false ∗ sendPay m c h true
        ∗ hole (nxt c) (tgtM c h false) ∗ hole (prv c) (tgtM c h true)
        ∗ owesE c (debt c h.val) ∗ hopG c h false ∗ hopG c h true)
      ⊢ iprop(((owesE c (debt c (h.val + 1)) ∗ sendPay m c h false ∗ sendPay m c h true
          ∗ recvPay m c h false ∗ recvPay m c h true ∗ hopZ c h false ∗ hopZ c h true) -∗ WP c kk Q)
        -∗ WP c (hop dR dL (srcM c h false) (tgtM c h false) (srcM c h true) (tgtM c h true) hR hL
            (sendS h false) (recvS h false) (sendS h true) (recvS h true) kk) Q) := by
  unfold hop hopG hopZ
  iintro ⟨#HR, #Hlev, HsR, HsL, HtR, HtL, HO, ⟨HaSR, HaVR, HdSR, HdVR, HcVR⟩, HaSL, HaVL, HdSL, HdVL, HcVL⟩ Hk
  icases HO with ⟨%W, HO⟩
  iapply (wp_sendX m K c dR h false hdR _ Q (debt c h.val) (debt c (h.val + 1) + owedX c h true) W (debt_step c h))
    $$ [HsR HtR HO HdSR HdVR]
  · isplitr; · iexact HR
    isplitl [HsR]; · iexact HsR
    isplitl [HtR]; · iexact HtR
    isplitl [HO]; · iexact HO
    isplitl [HdSR]; · iexact HdSR
    iexact HdVR
  iintro ⟨HcSR, HO⟩
  iapply (wp_sendX m K c dL h true hdL _ Q _ (debt c (h.val + 1)) W rfl) $$ [HsL HtL HO HdSL HdVL]
  · isplitr; · iexact HR
    isplitl [HsL]; · iexact HsL
    isplitl [HtL]; · iexact HtL
    isplitl [HO]; · iexact HO
    isplitl [HdSL]; · iexact HdSL
    iexact HdVL
  iintro ⟨HcSL, HO⟩
  iapply (wp_waitX m K c (false, h, false) (sendS h false) rfl (src_credit c h false) _ Q (debt c (h.val + 1)) W) $$ [HcSR HO HaSR]
  · isplitr; · iexact HR
    isplitl [HcSR]; · iexact HcSR
    isplitl [HO]; · iexact HO
    isplitr
    · iapply (mayWait_debt c (.dma (sendS h false)) (h.val + 1) 0 (le_of_eq (lvOf_send h false)) (by omega)); iexact Hlev
    iexact HaSR
  iintro ⟨⟨%W1, HO⟩, HsR, HzSR⟩
  iapply (wp_waitX m K c (true, h, false) (recvS h false) rfl (tgt_credit c h false) _ Q (debt c (h.val + 1)) W1) $$ [HcVR HO HaVR]
  · isplitr; · iexact HR
    isplitl [HcVR]; · iexact HcVR
    isplitl [HO]; · iexact HO
    isplitr
    · iapply (mayWait_debt c (.dma (recvS h false)) (h.val + 1) (2 + h.val) (le_of_eq (lvOf_recv h false)) (by omega)); iexact Hlev
    iexact HaVR
  iintro ⟨⟨%W2, HO⟩, HvR, HzVR⟩
  iapply (wp_waitX m K c (false, h, true) (sendS h true) rfl (src_credit c h true) _ Q (debt c (h.val + 1)) W2) $$ [HcSL HO HaSL]
  · isplitr; · iexact HR
    isplitl [HcSL]; · iexact HcSL
    isplitl [HO]; · iexact HO
    isplitr
    · iapply (mayWait_debt c (.dma (sendS h true)) (h.val + 1) 0 (le_of_eq (lvOf_send h true)) (by omega)); iexact Hlev
    iexact HaSL
  iintro ⟨⟨%W3, HO⟩, HsL, HzSL⟩
  iapply (wp_waitX m K c (true, h, true) (recvS h true) rfl (tgt_credit c h true) _ Q (debt c (h.val + 1)) W3) $$ [HcVL HO HaVL]
  · isplitr; · iexact HR
    isplitl [HcVL]; · iexact HcVL
    isplitl [HO]; · iexact HO
    isplitr
    · iapply (mayWait_debt c (.dma (recvS h true)) (h.val + 1) (2 + h.val) (le_of_eq (lvOf_recv h true)) (by omega)); iexact Hlev
    iexact HaVL
  iintro ⟨HO, HvL, HzVL⟩
  iapply Hk
  dsimp only [payOf]
  isplitl [HO]; · iexact HO
  isplitl [HsR]; · iexact HsR
  isplitl [HsL]; · iexact HsL
  isplitl [HvR]; · iexact HvR
  isplitl [HvL]; · iexact HvL
  isplitl [HzSR HzVR]; · isplitl [HzSR] <;> iassumption
  isplitl [HzSL] <;> iassumption

/-- What the handshake uses: the device's place at its barrier, its two units' credit, and the tokens of the duties
    it pays at its neighbours' barriers. -/
def shakeG (c : Dev nD) : sProp 𝕄 :=
  iprop(atPos ER (barC c) 0 ∅ 0 ∗ cred (tallyAt (barC c) () 2) ∗ dutyTok ER (barC (prv c)) 0 false
    ∗ dutyTok ER (barC (nxt c)) 0 true)

/-- The handshake: what each neighbour writes here is handed to it, and what this device writes there is received. -/
theorem wp_shake (c dL dR : Dev nD) (hdL : dL = prv c) (hdR : dR = nxt c) (kk : PR F) (Q : PUnit → sProp 𝕄) :
    iprop(records m K ∗ levAts L lv ∗ barPay (prv c) false ∗ barPay (nxt c) true ∗ owesE c (O₀ c) ∗ shakeG c)
      ⊢ iprop(((owesE c (debt c 0) ∗ barPay c false ∗ barPay c true ∗ semVal (barC c) 0) -∗ WP c kk Q)
        -∗ WP c (shake dL dR kk) Q) := by
  subst hdL hdR
  unfold shake shakeG
  simp only [semSignalWord, semWaitWord, Prog.lift, Prog.bind_op, Prog.bind_ret, Prog.pure_eq_ret]
  iintro ⟨#HR, #Hlev, HpP, HpN, ⟨%W, HO⟩, Hat, HcB, HtP, HtN⟩ Hk
  iapply (Rounds.wp_signal 𝒱₀ ER (Rd m) (c : Thread nD τ) none (dst := (prv c : Thread nD τ)) (κ := K (prv c, none))
      (d := false) (by rw [duties_bar]; exact Finset.mem_univ _)
      ((amount_bar m (prv c) false).trans (by decide)) () (O₁ c) rfl) $$ [HO HtP HpP]
  · isplitr; · iapply (rec_inv m K (prv c, none)); iexact HR
    isplitl [HO]; · iexact HO
    isplitl [HtP]; · iexact HtP
    isplitl [HpP]
    · rw [payload_bar]; iexact HpP
    iapply (rec_reached m K (prv c, none)); iexact HR
  iintro HO
  iapply (Rounds.wp_signal 𝒱₀ ER (Rd m) (c : Thread nD τ) none (dst := (nxt c : Thread nD τ)) (κ := K (nxt c, none))
      (d := true) (by rw [duties_bar]; exact Finset.mem_univ _)
      ((amount_bar m (nxt c) true).trans (by decide)) () (debt c 0) rfl) $$ [HO HtN HpN]
  · isplitr; · iapply (rec_inv m K (nxt c, none)); iexact HR
    isplitl [HO]; · iexact HO
    isplitl [HtN]; · iexact HtN
    isplitl [HpN]
    · rw [payload_bar]; iexact HpN
    iapply (rec_reached m K (nxt c, none)); iexact HR
  iintro HO
  ihave #HI := (rec_inv m K (c, none)) $$ HR
  iapply (Rounds.wp_wait_rest_token 𝒱₀ ER (Rd m) (c : Thread nD τ) none (κ := K (c, none))
      (wpE_semWait_eq 𝒱₀ (c : Thread nD τ) none Set.univ) (Set.mem_univ _) () (O := debt c 0) (W := W) (R := 0) (m := 0) (T := ∅)
      (by rw [expect_bar]; decide)) $$ [HcB HO Hat]
  · isplitr; · iexact HI
    isplitl [HcB]; · iexact HcB
    isplitl [HO]; · iexact HO
    isplitr
    · iapply (mayWait_debt c (.reg barS) 0 1 (le_of_eq lvOf_bar) (by omega)); iexact Hlev
    iexact Hat
  iintro ⟨HO, Hat, -, Hpay⟩
  imod (Rounds.cell_close ER (Rd m) (Set.mem_univ (K (c, none))) (fun h => h) (R := 0 + 1) (duties_later m _)) $$ [Hat] with Hz
  · isplitr; · iexact HI
    iexact Hat
  ihave Hp := (Entails.of_eq (rest_bar m c)) $$ Hpay
  icases Hp with ⟨Hp1, Hp2⟩
  iapply Hk
  isplitl [HO]; · iexists _; iexact HO
  isplitl [Hp1]; · iexact Hp1
  isplitl [Hp2]; · iexact Hp2
  iexact Hz

end Cert.KernelIdeal.Ring
-- ==== Proof.RunI.Geo.lean ====
/-
Regions of a buffer: splitting one into two and joining two into one, lending a region of a buffer.
-/
module

public import proofs.«01_k».proof.Proof.RunI.Common
public import Idealize.ShloMosaic.Lib.ValueLayout

@[expose] public section

set_option maxRecDepth 16384

noncomputable section

namespace Cert.KernelIdeal.Ring

open Cert.KernelIdeal Cert.KernelIdeal.Gen
open Idealize.ShloMosaic
open Idealize.ShloMosaic.TcCoe
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Part of a buffer, given by an embedding of its indices, holds `X`. -/
def ownsE (c : Dev nD) (b : Ref sig .tc) {ι : Type} [Fintype ι] (em : ι ↪ b.ty.shape.Idx) (q : PosShare TreeShare)
    (X : ι → Elt F b.ty.elt) : sProp 𝕄 :=
  iprop(∃ f : Buf (Elt F) ((c : Thread nD τ).loc b), ⌜(fun j => f (em j)) = X⌝
    ∗ (((c : Thread nD τ).loc b) ↦[Finset.univ.map em]{q} f))

section Two

variable {b : Ref sig .tc} {ι κ₀ κ₁ : Type} [Fintype ι] [Fintype κ₀] [Fintype κ₁] {em : ι ↪ b.ty.shape.Idx}
  {em₀ : κ₀ ↪ b.ty.shape.Idx} {em₁ : κ₁ ↪ b.ty.shape.Idx} {φ₀ : κ₀ → ι} {φ₁ : κ₁ → ι}

theorem two_disj (h₀ : ∀ j, em₀ j = em (φ₀ j)) (h₁ : ∀ j, em₁ j = em (φ₁ j)) (hd : ∀ j j', φ₀ j ≠ φ₁ j') :
    Disjoint (Finset.univ.map em₀) (Finset.univ.map em₁) := by
  rw [Finset.disjoint_left]
  intro x hx hx'
  obtain ⟨j, -, rfl⟩ := Finset.mem_map.mp hx
  obtain ⟨j', -, hj⟩ := Finset.mem_map.mp hx'
  rw [h₀, h₁] at hj
  exact hd j j' (em.injective hj).symm

theorem two_cover [DecidableEq b.ty.shape.Idx] (h₀ : ∀ j, em₀ j = em (φ₀ j)) (h₁ : ∀ j, em₁ j = em (φ₁ j))
    (hc : ∀ i, (∃ j, φ₀ j = i) ∨ ∃ j, φ₁ j = i) :
    Finset.univ.map em = Finset.univ.map em₀ ∪ Finset.univ.map em₁ := by
  ext x
  rw [Finset.mem_union, Finset.mem_map, Finset.mem_map, Finset.mem_map]
  constructor
  · rintro ⟨i, -, rfl⟩
    rcases hc i with ⟨j, rfl⟩ | ⟨j, rfl⟩
    · exact .inl ⟨j, Finset.mem_univ _, h₀ j⟩
    · exact .inr ⟨j, Finset.mem_univ _, h₁ j⟩
  · rintro (⟨j, -, rfl⟩ | ⟨j, -, rfl⟩)
    · exact ⟨_, Finset.mem_univ _, (h₀ j).symm⟩
    · exact ⟨_, Finset.mem_univ _, (h₁ j).symm⟩

/-- A region split in two. -/
theorem split2 (c : Dev nD) (q : PosShare TreeShare) (h₀ : ∀ j, em₀ j = em (φ₀ j)) (h₁ : ∀ j, em₁ j = em (φ₁ j))
    (hd : ∀ j j', φ₀ j ≠ φ₁ j') (hc : ∀ i, (∃ j, φ₀ j = i) ∨ ∃ j, φ₁ j = i) (X : ι → Elt F b.ty.elt) :
    ownsE c b em q X ⊢ iprop(ownsE c b em₀ q (fun j => X (φ₀ j)) ∗ ownsE c b em₁ q (fun j => X (φ₁ j)) : sProp 𝕄) := by
  classical
  unfold ownsE
  iintro ⟨%f, %hf, H⟩
  rw [two_cover h₀ h₁ hc]
  ihave H2 := (pointsTo_union (two_disj h₀ h₁ hd)).1 $$ H
  icases H2 with ⟨H0, H1⟩
  subst hf
  isplitl [H0]
  · iexists f; isplitr
    · ipureintro; funext j; exact congrArg f (h₀ j)
    iexact H0
  · iexists f; isplitr
    · ipureintro; funext j; exact congrArg f (h₁ j)
    iexact H1

/-- Two regions joined. -/
theorem join2 (c : Dev nD) (q : PosShare TreeShare) (h₀ : ∀ j, em₀ j = em (φ₀ j)) (h₁ : ∀ j, em₁ j = em (φ₁ j))
    (hd : ∀ j j', φ₀ j ≠ φ₁ j') (hc : ∀ i, (∃ j, φ₀ j = i) ∨ ∃ j, φ₁ j = i) (X : ι → Elt F b.ty.elt)
    (X₀ : κ₀ → Elt F b.ty.elt) (X₁ : κ₁ → Elt F b.ty.elt) (hX₀ : ∀ j, X (φ₀ j) = X₀ j) (hX₁ : ∀ j, X (φ₁ j) = X₁ j) :
    iprop(ownsE c b em₀ q X₀ ∗ ownsE c b em₁ q X₁) ⊢ (ownsE c b em q X : sProp 𝕄) := by
  classical
  unfold ownsE
  iintro ⟨⟨%f, %hf, H0⟩, ⟨%g, %hg, H1⟩⟩
  have hdj := two_disj (em := em) h₀ h₁ hd
  ihave H := (pointsTo_join (ℓ := (c : Thread nD τ).loc b) (f := f) (g := g) hdj) $$ [H0 H1]
  · isplitl [H0] <;> iassumption
  rw [two_cover h₀ h₁ hc]
  iexists _
  isplitr; swap
  · iexact H
  ipureintro
  funext i
  rcases hc i with ⟨j, rfl⟩ | ⟨j, rfl⟩
  · rw [← h₀, hX₀, ← hf, Finset.piecewise_eq_of_notMem]
    exact Finset.disjoint_left.mp hdj (Finset.mem_map_of_mem _ (Finset.mem_univ _))
  · rw [← h₁, hX₁, ← hg, Finset.piecewise_eq_of_mem]
    exact Finset.mem_map_of_mem _ (Finset.mem_univ _)

end Two

/-! ## Rows and columns -/

theorem row_ne (j j' : S1024x1024.Idx) : rowIx 0 (j 0) (j 1) ≠ rowIx 1 (j' 0) (j' 1) := fun h => by
  have h0 : 1024 * 0 + (j 0).val = 1024 * 1 + (j' 0).val := congrArg (fun i : S2048x1024.Idx => (i 0).val) h
  have : (j 0).val < 1024 := (j 0).isLt
  omega

theorem row_cover (i : S2048x1024.Idx) :
    (∃ j : S1024x1024.Idx, rowIx 0 (j 0) (j 1) = i) ∨ ∃ j : S1024x1024.Idx, rowIx 1 (j 0) (j 1) = i := by
  have h0 : (i 0).val < 2048 := (i 0).isLt
  by_cases h : (i 0).val < 1024
  · refine .inl ⟨ix2 (⟨(i 0).val, h⟩ : Fin 1024) (i 1 : Fin 1024), funext fun a => Fin.ext ?_⟩
    fin_cases a
    · show 1024 * 0 + (i 0).val = (i 0).val; omega
    · rfl
  · refine .inr ⟨ix2 (⟨(i 0).val - 1024, by omega⟩ : Fin 1024) (i 1 : Fin 1024), funext fun a => Fin.ext ?_⟩
    fin_cases a
    · show 1024 * 1 + ((i 0).val - 1024) = (i 0).val; omega
    · rfl

/-- The index of a wide chunk at an index of its left or right half. -/
abbrev colIx (b : Bool) (j : S1024x1024.Idx) : S1024x2048.Idx :=
  ix2 (j 0 : Fin 1024) (⟨(if b then 1024 else 0) + (j 1).val, by
    have h1 : (j 1).val < 1024 := (j 1).isLt; split <;> omega⟩ : Fin 2048)

theorem col_ne (j j' : S1024x1024.Idx) : colIx false j ≠ colIx true j' := fun h => by
  have h0 : 0 + (j 1).val = 1024 + (j' 1).val := congrArg (fun i : S1024x2048.Idx => (i 1).val) h
  have : (j 1).val < 1024 := (j 1).isLt
  omega

theorem col_cover (i : S1024x2048.Idx) : (∃ j, colIx false j = i) ∨ ∃ j, colIx true j = i := by
  have h0 : (i 1).val < 2048 := (i 1).isLt
  by_cases h : (i 1).val < 1024
  · refine .inl ⟨ix2 (i 0 : Fin 1024) (⟨(i 1).val, h⟩ : Fin 1024), funext fun a => Fin.ext ?_⟩
    fin_cases a
    · rfl
    · show 0 + (i 1).val = (i 1).val; omega
  · refine .inr ⟨ix2 (i 0 : Fin 1024) (⟨(i 1).val - 1024, by omega⟩ : Fin 1024), funext fun a => Fin.ext ?_⟩
    fin_cases a
    · rfl
    · show 1024 + ((i 1).val - 1024) = (i 1).val; omega

theorem glue_left {α : Type} (x y : S1024x1024.Idx → α) (j : S1024x1024.Idx) : glue x y (colIx false j) = x j := by
  have h1 : (j 1).val < 1024 := (j 1).isLt
  have h : 0 + (j 1).val < 1024 := by omega
  unfold glue
  rw [dif_pos (show ((colIx false j) 1).val < 1024 from h)]
  congr 1
  funext a
  apply Fin.ext
  fin_cases a
  · rfl
  · show 0 + (j 1).val = (j 1).val; omega

theorem glue_right {α : Type} (x y : S1024x1024.Idx → α) (j : S1024x1024.Idx) : glue x y (colIx true j) = y j := by
  have h1 : (j 1).val < 1024 := (j 1).isLt
  have h : ¬ 1024 + (j 1).val < 1024 := by omega
  unfold glue
  rw [dif_neg (show ¬ ((colIx true j) 1).val < 1024 from h)]
  congr 1
  funext a
  apply Fin.ext
  fin_cases a
  · rfl
  · show 1024 + (j 1).val - 1024 = (j 1).val; omega

/-- A glued chunk is known by its halves. -/
theorem glue_eq {α : Type} (x y : S1024x1024.Idx → α) (z : S1024x2048.Idx → α) (h0 : half z false = x) (h1 : half z true = y) :
    glue x y = z := by
  funext i
  rcases col_cover i with ⟨j, rfl⟩ | ⟨j, rfl⟩
  · rw [glue_left, ← h0]; rfl
  · rw [glue_right, ← h1]; rfl

/-! ## The scratch buffers' columns -/

theorem col_emb (v : VB S1024x2048) : (∀ j, (colL v).view.emb j = v.view.emb (colIx false j))
    ∧ ∀ j, (colR v).view.emb j = v.view.emb (colIx true j) := by
  constructor <;>
  · intro j
    show v.view.emb _ = v.view.emb _
    congr 1
    funext a
    apply Fin.ext
    rw [Rect.emb_apply]
    fin_cases a
    · show 0 + 1 * (j 0).val = (j 0).val; omega
    · first
      | (show 0 + 1 * (j 1).val = 0 + (j 1).val; omega)
      | (show 1024 + 1 * (j 1).val = 1024 + (j 1).val; omega)

/-- A scratch buffer whose two halves of columns are known. -/
def IsScr (v : VB S1024x2048) : Prop := v = bW ∨ v = bP ∨ v = bR

theorem scr_split (c : Dev nD) {v : VB S1024x2048} (hv : IsScr v) (X : Vec F S1024x2048 .f32) :
    (owns (c : Thread nD τ) v fullShare X : sProp 𝕄)
      ⊢ iprop(owns (c : Thread nD τ) (colL v) fullShare (half X false) ∗ owns (c : Thread nD τ) (colR v) fullShare (half X true)) := by
  rcases hv with rfl | rfl | rfl
  · exact split2 (b := cc0_scratch0) c fullShare (col_emb bW).1 (col_emb bW).2 col_ne col_cover X
  · exact split2 (b := cc0_scratch1) c fullShare (col_emb bP).1 (col_emb bP).2 col_ne col_cover X
  · exact split2 (b := cc0_scratch2) c fullShare (col_emb bR).1 (col_emb bR).2 col_ne col_cover X

theorem scr_join (c : Dev nD) {v : VB S1024x2048} (hv : IsScr v) (X Y : Vec F S1024x1024 .f32) :
    iprop(owns (c : Thread nD τ) (colL v) fullShare X ∗ owns (c : Thread nD τ) (colR v) fullShare Y)
      ⊢ (owns (c : Thread nD τ) v fullShare (glue X Y) : sProp 𝕄) := by
  rcases hv with rfl | rfl | rfl
  · exact join2 (b := cc0_scratch0) c fullShare (col_emb bW).1 (col_emb bW).2 col_ne col_cover (glue X Y) X Y (glue_left X Y) (glue_right X Y)
  · exact join2 (b := cc0_scratch1) c fullShare (col_emb bP).1 (col_emb bP).2 col_ne col_cover (glue X Y) X Y (glue_left X Y) (glue_right X Y)
  · exact join2 (b := cc0_scratch2) c fullShare (col_emb bR).1 (col_emb bR).2 col_ne col_cover (glue X Y) X Y (glue_left X Y) (glue_right X Y)

/-! ## Owning a region at the contents of a buffer -/

section At

variable {sp : Space} {s : Shape} (M : Memref sig .tc sp s .f32) (c : Dev nD) (q : PosShare TreeShare)

theorem owns_at (f : Buf (Elt F) (M.view.loc (c : Thread nD τ))) :
    (M.view.loc (c : Thread nD τ) ↦[M.view.set]{q} f) ⊢ (owns (c : Thread nD τ) M q (M.view.read (Elt F) f) : sProp 𝕄) := by
  unfold owns
  iintro H
  iexists f; isplitr; · ipureintro; rfl
  iexact H

theorem at_owns (f : Buf (Elt F) (M.view.loc (c : Thread nD τ))) :
    (owns (c : Thread nD τ) M q (M.view.read (Elt F) f) : sProp 𝕄) ⊢ (M.view.loc (c : Thread nD τ) ↦[M.view.set]{q} f) := by
  unfold owns
  iintro ⟨%g, %hg, H⟩
  have hfg : ∀ i ∈ M.view.set, g i = f i := fun i hi => by
    obtain ⟨j, -, rfl⟩ := Finset.mem_map.mp hi
    have := congrFun hg j
    unfold View.read at this
    exact (cast_inj _).mp this
  ihave H' := (Entails.of_eq (pointsTo_congr (f := g) (g := f) hfg)) $$ H
  iexact H'

/-- Part of a buffer lent, to be given back unchanged. -/
theorem lend (f : Buf (Elt F) (M.view.loc (c : Thread nD τ))) :
    (M.view.loc (c : Thread nD τ) ↦{q} f) ⊢ (iprop(owns (c : Thread nD τ) M q (M.view.read (Elt F) f)
      ∗ (owns (c : Thread nD τ) M q (M.view.read (Elt F) f) -∗ (M.view.loc (c : Thread nD τ) ↦{q} f))) : sProp 𝕄) := by
  iintro H
  ihave H2 := (pointsTo_split_subset (Finset.subset_univ M.view.set)).1 $$ H
  icases H2 with ⟨H1, H2⟩
  isplitl [H1]
  · iapply (owns_at M c q f); iexact H1
  iintro H1
  ihave H1 := (at_owns M c q f) $$ H1
  iapply (pointsTo_split_subset (Finset.subset_univ M.view.set)).2
  isplitl [H1] <;> iassumption

end At

/-! ## The slots' rows -/

/-- A squeezed slice's index. -/
theorem sq_emb (n₁ n₂ : ℕ) (e : (⟨2, ![n₁, n₂]⟩ : Shape).numel = (⟨3, ![1, n₁, n₂]⟩ : Shape).numel)
    (j : (⟨2, ![n₁, n₂]⟩ : Shape).Idx) :
    Shape.reshapeEquiv e j = ix3 (⟨0, Nat.one_pos⟩ : Fin 1) (j 0 : Fin n₁) (j 1 : Fin n₂) := by
  conv_lhs => rw [show j = ix2 (j 0 : Fin n₁) (j 1 : Fin n₂) from ValueIdx.eq_ix2 j]
  exact ValueIdx.reshapeEquiv_ix2_1ab e _ _

theorem rows_emb {n₀ n₁ n₂ : ℕ} (W : HB ⟨3, ![n₀, n₁, n₂]⟩) (o o' : Fin 3 → ℕ)
    (h : ∀ a, o a + S1x2048x1024.size a ≤ (⟨3, ![n₀, n₁, n₂]⟩ : Shape).size a)
    (h' : ∀ a, o' a + S1x1024x1024.size a ≤ (⟨3, ![n₀, n₁, n₂]⟩ : Shape).size a) (r : Fin 2)
    (h0 : o' 0 = o 0) (h1 : o' 1 = o 1 + 1024 * r.val) (h2 : o' 2 = o 2) (j : S1024x1024.Idx) :
    ((W.slice (Rect.unit (s := ⟨3, ![n₀, n₁, n₂]⟩) o' S1x1024x1024.size h') (fun _ => rfl)).squeeze S1024x1024
      squeezes_S1x1024x1024_S1024x1024).view.emb j
    = ((W.slice (Rect.unit (s := ⟨3, ![n₀, n₁, n₂]⟩) o S1x2048x1024.size h) (fun _ => rfl)).squeeze S2048x1024
      squeezes_S1x2048x1024_S2048x1024).view.emb (rowIx r (j 0) (j 1)) := by
  show W.view.emb ((Rect.unit (s := ⟨3, ![n₀, n₁, n₂]⟩) o' S1x1024x1024.size h').emb (Shape.reshapeEquiv _ j))
    = W.view.emb ((Rect.unit (s := ⟨3, ![n₀, n₁, n₂]⟩) o S1x2048x1024.size h).emb (Shape.reshapeEquiv _ (rowIx r (j 0) (j 1))))
  congr 1
  rw [show Shape.reshapeEquiv _ j = _ from sq_emb 1024 1024 _ j,
    show Shape.reshapeEquiv _ (rowIx r (j 0) (j 1)) = _ from sq_emb 2048 1024 _ _]
  funext a
  apply Fin.ext
  refine (Rect.emb_apply (Rect.unit (s := ⟨3, ![n₀, n₁, n₂]⟩) o' S1x1024x1024.size h') _ a).trans
    (Eq.trans ?_ (Rect.emb_apply (Rect.unit (s := ⟨3, ![n₀, n₁, n₂]⟩) o S1x2048x1024.size h) _ a).symm)
  fin_cases a
  · show o' 0 + 1 * 0 = o 0 + 1 * 0; omega
  · show o' 1 + 1 * (j 0).val = o 1 + 1 * (1024 * r.val + (j 0).val); omega
  · show o' 2 + 1 * (j 1).val = o 2 + 1 * (j 1).val; omega

/-- A received slot is its two halves of rows. -/
theorem slot3_split (c : Dev nD) {W : HB S3x2048x1024} (hW : W = bRr ∨ W = bRl) (k : ℕ) (h) (h') (h'')
    (X : Vec F S2048x1024 .f32) :
    (owns (c : Thread nD τ) (slot3 W ![k, 0, 0] h) fullShare X : sProp 𝕄)
      ⊢ iprop(owns (c : Thread nD τ) (chunk3 W ![k, 0, 0] h') fullShare (rows X 0)
        ∗ owns (c : Thread nD τ) (chunk3 W ![k, 1024, 0] h'') fullShare (rows X 1)) := by
  rcases hW with rfl | rfl
  · exact split2 (b := main_v1_1) c fullShare (rows_emb bRr _ _ h h' 0 rfl rfl rfl) (rows_emb bRr _ _ h h'' 1 rfl rfl rfl) row_ne row_cover X
  · exact split2 (b := main_v1_2) c fullShare (rows_emb bRl _ _ h h' 0 rfl rfl rfl) (rows_emb bRl _ _ h h'' 1 rfl rfl rfl) row_ne row_cover X

theorem slot2_split (c : Dev nD) {W : HB S2x2048x1024} (hW : W = bSr ∨ W = bSl) (k : ℕ) (h) (h') (h'')
    (X : Vec F S2048x1024 .f32) :
    (owns (c : Thread nD τ) (slot2 W ![k, 0, 0] h) fullShare X : sProp 𝕄)
      ⊢ iprop(owns (c : Thread nD τ) (chunk2 W ![k, 0, 0] h') fullShare (rows X 0)
        ∗ owns (c : Thread nD τ) (chunk2 W ![k, 1024, 0] h'') fullShare (rows X 1)) := by
  rcases hW with rfl | rfl
  · exact split2 (b := main_v1_3) c fullShare (rows_emb bSr _ _ h h' 0 rfl rfl rfl) (rows_emb bSr _ _ h h'' 1 rfl rfl rfl) row_ne row_cover X
  · exact split2 (b := main_v1_4) c fullShare (rows_emb bSl _ _ h h' 0 rfl rfl rfl) (rows_emb bSl _ _ h h'' 1 rfl rfl rfl) row_ne row_cover X

/-- A slot to be sent is joined from its two halves of rows. -/
theorem slot2_join (c : Dev nD) {W : HB S2x2048x1024} (hW : W = bSr ∨ W = bSl) (k : ℕ) (h) (h') (h'')
    (X : Vec F S2048x1024 .f32) :
    iprop(owns (c : Thread nD τ) (chunk2 W ![k, 0, 0] h') fullShare (rows X 0)
        ∗ owns (c : Thread nD τ) (chunk2 W ![k, 1024, 0] h'') fullShare (rows X 1))
      ⊢ (owns (c : Thread nD τ) (slot2 W ![k, 0, 0] h) fullShare X : sProp 𝕄) := by
  rcases hW with rfl | rfl
  · exact join2 (b := main_v1_3) c fullShare (rows_emb bSr _ _ h h' 0 rfl rfl rfl) (rows_emb bSr _ _ h h'' 1 rfl rfl rfl) row_ne row_cover X _ _
      (fun _ => rfl) (fun _ => rfl)
  · exact join2 (b := main_v1_4) c fullShare (rows_emb bSl _ _ h h' 0 rfl rfl rfl) (rows_emb bSl _ _ h h'' 1 rfl rfl rfl) row_ne row_cover X _ _
      (fun _ => rfl) (fun _ => rfl)

/-- The rows of a half block of the partial sums. -/
theorem rows_part (P : Vec F S1x8192x2048 .f32) (o o' : Fin 3 → ℕ) (h) (h') (r : Fin 2)
    (h0 : o' 0 = o 0) (h1 : o' 1 = o 1 + 1024 * r.val) (h2 : o' 2 = o 2) :
    (parC bPar o' h').view.read (Elt F) P = rows ((parB bPar o h).view.read (Elt F) P) r := by
  funext j
  exact congrArg P (rows_emb bPar o o' h h' r h0 h1 h2 j)

end Cert.KernelIdeal.Ring
-- ==== Proof.RunI.Steps.lean ====
/-
The local steps: one copy, four copies, the addition of a chunk, the normalisation of a chunk.
-/
module

public import proofs.«01_k».proof.Proof.RunI.Hop
public import proofs.«01_k».proof.Proof.RunI.Geo

@[expose] public section

set_option maxRecDepth 16384

noncomputable section

namespace Cert.KernelIdeal.Ring

open Cert.KernelIdeal Cert.KernelIdeal.Gen
open Idealize.ShloMosaic
open Idealize.ShloMosaic.TcCoe
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A memref of a device held in full at some contents. -/
abbrev some' (c : Dev nD) {sp : Space} {s : Shape} (M : Memref sig .tc sp s .f32) : sProp 𝕄 :=
  iprop(∃ X, owns (c : Thread nD τ) M fullShare X)

/-- A copy semaphore at zero. -/
abbrev cz (c : Dev nD) (i : Fin 4) : sProp 𝕄 := semVal ((c : Thread nD τ), SemLoc.dma (copyS i)) 0

/-- A copy under way: it will have filled its target and give its source back. -/
abbrev Fl (c : Dev nD) {sp sp' : Space} {s : Shape} (i : Fin 4) (a : Memref sig .tc sp s .f32)
    (b : Memref sig .tc sp' s .f32) (q : PosShare TreeShare) (X : Vec F s .f32) : sProp 𝕄 :=
  Transfers.Flight EC (c : Thread nD τ) (.dma (copyS i)) () b.view.dmaCredit
    iprop(owns (c : Thread nD τ) b fullShare X ∗ owns (c : Thread nD τ) a q X)

/-- A local copy is started. -/
theorem wp_cp (c : Dev nD) {sp sp' : Space} {s : Shape} (i : Fin 4) (a : Memref sig .tc sp s .f32)
    (b : Memref sig .tc sp' s .f32) {h₁ : a.view.WordExact} {h₂ : b.view.WordExact}
    {h₃ : DmaTarget.Typed (nD := nD) sp (.dma (copyS i)) (DmaTarget.here (p := (c : Thread nD τ).2) b)} (h0 : 0 < s.numel)
    (q : PosShare TreeShare) (X : Vec F s .f32) (kk : PR F) (Q : PUnit → sProp 𝕄) :
    iprop(owns (c : Thread nD τ) a q X ∗ some' c b ∗ cz c i)
      ⊢ iprop((Fl c i a b q X -∗ WP c kk Q)
        -∗ WP c (.op (.enqueueDma a (.here b) (.dma (copyS i)) h₁ h₂ h₃) fun _ => kk) Q) := by
  unfold some' owns
  iintro ⟨⟨%fs, %hfs, Ha⟩, ⟨%Y, %fd, -, Hb⟩, Hz⟩ Hk
  iapply (Transfers.wp_dmaLocal EC 𝒱₀ (c : Thread nD τ) none (dst := b) () b.view.dmaCredit rfl
    (View.dmaCredit_pos _ h0) (Finset.Subset.refl _)) $$ [Ha Hb Hz]
  · isplitl [Ha]; · iexact Ha
    isplitl [Hb]; · iexact Hb
    iexact Hz
  iintro HF
  iapply Hk
  iapply (Transfers.Flight_mono EC (c : Thread nD τ) ?_) $$ HF
  subst hfs
  unfold owns
  iintro ⟨Hb, Ha⟩
  isplitl [Hb]
  · iexists _; isplitr; swap; · iexact Hb
    ipureintro; exact View.read_write_univ _ _
  iexists fs; isplitr; · ipureintro; rfl
  iexact Ha

/-- A local copy is awaited, the device owing what it owes from hop `k` on. -/
theorem wp_copied (c : Dev nD) {sp sp' : Space} {s : Shape} (i : Fin 4) (a : Memref sig .tc sp s .f32)
    (b : Memref sig .tc sp' s .f32) {h₁ : a.view.WordExact} {h₂ : b.view.WordExact}
    (q : PosShare TreeShare) (X : Vec F s .f32) (k : ℕ) (kk : PR F) (Q : PUnit → sProp 𝕄) :
    iprop(Fl c i a b q X ∗ levAts L lv ∗ owesE c (debt c k))
      ⊢ iprop(((owns (c : Thread nD τ) b fullShare X ∗ owns (c : Thread nD τ) a q X ∗ cz c i ∗ owesE c (debt c k)) -∗ WP c kk Q)
        -∗ WP c (.op (.waitDma2 (copyS i) a b h₁ h₂) fun _ => kk) Q) := by
  iintro ⟨HF, Hlev, ⟨%W, HO⟩⟩ Hk
  iapply (Transfers.wp_waitLocalO EC 𝒱₀ (c : Thread nD τ) none (dstw := b) () rfl) $$ [HF Hlev HO]
  · isplitl [HF]; · iexact HF
    isplitl [HO]; · iexact HO
    iapply (mayWait_debt c (.dma (copyS i)) k 0 (le_of_eq (congrArg lvOf (dec_copy i))) (by omega)); iexact Hlev
  iintro ⟨⟨Hb, Ha⟩, Hz, HO⟩
  iapply Hk
  isplitl [Hb]; · iexact Hb
  isplitl [Ha]; · iexact Ha
  isplitl [Hz]; · iexact Hz
  iexists _; iexact HO

/-- The four copy semaphores at zero. -/
abbrev cz4 (c : Dev nD) : sProp 𝕄 := iprop(cz c 0 ∗ cz c 1 ∗ cz c 2 ∗ cz c 3)

/-- Four copies. -/
theorem wp_fetch4 (c : Dev nD) {s₀ s₁ s₂ s₃ : Shape} (a₀ : HB s₀) (b₀ : VB s₀) (a₁ : HB s₁) (b₁ : VB s₁) (a₂ : HB s₂)
    (b₂ : VB s₂) (a₃ : HB s₃) (b₃ : VB s₃) (h₀ : 0 < s₀.numel) (h₁ : 0 < s₁.numel) (h₂ : 0 < s₂.numel) (h₃ : 0 < s₃.numel)
    (q₀ q₁ q₂ q₃ : PosShare TreeShare) (X₀ : Vec F s₀ .f32) (X₁ : Vec F s₁ .f32) (X₂ : Vec F s₂ .f32) (X₃ : Vec F s₃ .f32)
    (k : ℕ) (kk : PR F) (Q : PUnit → sProp 𝕄) :
    iprop(levAts L lv ∗ owesE c (debt c k) ∗ cz4 c
        ∗ (owns (c : Thread nD τ) a₀ q₀ X₀ ∗ owns (c : Thread nD τ) a₁ q₁ X₁ ∗ owns (c : Thread nD τ) a₂ q₂ X₂ ∗ owns (c : Thread nD τ) a₃ q₃ X₃)
        ∗ some' c b₀ ∗ some' c b₁ ∗ some' c b₂ ∗ some' c b₃)
      ⊢ iprop(((owesE c (debt c k) ∗ cz4 c
        ∗ (owns (c : Thread nD τ) a₀ q₀ X₀ ∗ owns (c : Thread nD τ) a₁ q₁ X₁ ∗ owns (c : Thread nD τ) a₂ q₂ X₂ ∗ owns (c : Thread nD τ) a₃ q₃ X₃)
        ∗ owns (c : Thread nD τ) b₀ fullShare X₀ ∗ owns (c : Thread nD τ) b₁ fullShare X₁ ∗ owns (c : Thread nD τ) b₂ fullShare X₂
        ∗ owns (c : Thread nD τ) b₃ fullShare X₃) -∗ WP c kk Q)
        -∗ WP c (fetch4 a₀ b₀ a₁ b₁ a₂ b₂ a₃ b₃ kk) Q) := by
  unfold fetch4
  iintro ⟨#Hlev, HO, ⟨Hz0, Hz1, Hz2, Hz3⟩, ⟨Ha0, Ha1, Ha2, Ha3⟩, Hb0, Hb1, Hb2, Hb3⟩ Hk
  iapply (wp_cp c 0 a₀ b₀ h₀ q₀ X₀) $$ [Ha0 Hb0 Hz0]
  · isplitl [Ha0]; · iexact Ha0
    isplitl [Hb0]; · iexact Hb0
    iexact Hz0
  iintro HF0
  iapply (wp_cp c 1 a₁ b₁ h₁ q₁ X₁) $$ [Ha1 Hb1 Hz1]
  · isplitl [Ha1]; · iexact Ha1
    isplitl [Hb1]; · iexact Hb1
    iexact Hz1
  iintro HF1
  iapply (wp_cp c 2 a₂ b₂ h₂ q₂ X₂) $$ [Ha2 Hb2 Hz2]
  · isplitl [Ha2]; · iexact Ha2
    isplitl [Hb2]; · iexact Hb2
    iexact Hz2
  iintro HF2
  iapply (wp_cp c 3 a₃ b₃ h₃ q₃ X₃) $$ [Ha3 Hb3 Hz3]
  · isplitl [Ha3]; · iexact Ha3
    isplitl [Hb3]; · iexact Hb3
    iexact Hz3
  iintro HF3
  iapply (wp_copied c 0 a₀ b₀ q₀ X₀ k) $$ [HF0 HO]
  · isplitl [HF0]; · iexact HF0
    isplitr; · iexact Hlev
    iexact HO
  iintro ⟨Hb0, Ha0, Hz0, HO⟩
  iapply (wp_copied c 1 a₁ b₁ q₁ X₁ k) $$ [HF1 HO]
  · isplitl [HF1]; · iexact HF1
    isplitr; · iexact Hlev
    iexact HO
  iintro ⟨Hb1, Ha1, Hz1, HO⟩
  iapply (wp_copied c 2 a₂ b₂ q₂ X₂ k) $$ [HF2 HO]
  · isplitl [HF2]; · iexact HF2
    isplitr; · iexact Hlev
    iexact HO
  iintro ⟨Hb2, Ha2, Hz2, HO⟩
  iapply (wp_copied c 3 a₃ b₃ q₃ X₃ k) $$ [HF3 HO]
  · isplitl [HF3]; · iexact HF3
    isplitr; · iexact Hlev
    iexact HO
  iintro ⟨Hb3, Ha3, Hz3, HO⟩
  iapply Hk
  isplitl [HO]; · iexact HO
  isplitl [Hz0 Hz1 Hz2 Hz3]
  · isplitl [Hz0]; · iexact Hz0
    isplitl [Hz1]; · iexact Hz1
    isplitl [Hz2] <;> iassumption
  isplitl [Ha0 Ha1 Ha2 Ha3]
  · isplitl [Ha0]; · iexact Ha0
    isplitl [Ha1]; · iexact Ha1
    isplitl [Ha2] <;> iassumption
  isplitl [Hb0]; · iexact Hb0
  isplitl [Hb1]; · iexact Hb1
  isplitl [Hb2] <;> iassumption

/-! ## Loads and stores of the scratch buffers -/

theorem hz2 : (![0, 0] : Fin 2 → Nat) = fun _ => 0 := funext fun a => by fin_cases a <;> rfl
theorem hz1 : (![0] : Fin 1 → Nat) = fun _ => 0 := funext fun a => by fin_cases a; rfl

theorem read_W (f : Vec F S1024x2048 .f32) : bW.view.readAt (Elt F) allV.toLoadRect f = f :=
  Memref.readAt_unit_zero (Elt F) cc0_scratch0 hz2 _ f
theorem write_W (f w : Vec F S1024x2048 .f32) : (bW.access allV : View sig .tc _ _ _).write (Elt F) f w Finset.univ = w :=
  Memref.write_access_unit_zero_univ (Elt F) cc0_scratch0 hz2 _ f w
theorem read_P (f : Vec F S1024x2048 .f32) : bP.view.readAt (Elt F) allV.toLoadRect f = f :=
  Memref.readAt_unit_zero (Elt F) cc0_scratch1 hz2 _ f
theorem write_P (f w : Vec F S1024x2048 .f32) : (bP.access allV : View sig .tc _ _ _).write (Elt F) f w Finset.univ = w :=
  Memref.write_access_unit_zero_univ (Elt F) cc0_scratch1 hz2 _ f w
theorem read_R (f : Vec F S1024x2048 .f32) : bR.view.readAt (Elt F) allV.toLoadRect f = f :=
  Memref.readAt_unit_zero (Elt F) cc0_scratch2 hz2 _ f
theorem write_R (f w : Vec F S1024x2048 .f32) : (bR.access allV : View sig .tc _ _ _).write (Elt F) f w Finset.univ = w :=
  Memref.write_access_unit_zero_univ (Elt F) cc0_scratch2 hz2 _ f w

theorem wp_loadV (c : Dev nD) {v : VB S1024x2048} (hv : IsScr v) {hl : v.view.LoadsAt allV.toLoadRect}
    (X : Vec F S1024x2048 .f32) (kk : Vec F S1024x2048 .f32 → PR F) (Q : PUnit → sProp 𝕄) :
    (owns (c : Thread nD τ) v fullShare X : sProp 𝕄)
      ⊢ iprop((owns (c : Thread nD τ) v fullShare X -∗ WP c (kk X) Q) -∗ WP c (.op (.load v allV.toLoadRect hl) kk) Q) := by
  rcases hv with rfl | rfl | rfl
  · rw [show (owns (c : Thread nD τ) bW fullShare X : sProp 𝕄) = _ from owns_whole (c : Thread nD τ) cc0_scratch0 fullShare X]
    iintro H Hk
    iapply (wp_load 𝒱₀ (c : Thread nD τ) none Set.univ (m := bW) (Finset.subset_univ _)) $$ H; iintro H
    rw [read_W]
    iapply Hk; iexact H
  · rw [show (owns (c : Thread nD τ) bP fullShare X : sProp 𝕄) = _ from owns_whole (c : Thread nD τ) cc0_scratch1 fullShare X]
    iintro H Hk
    iapply (wp_load 𝒱₀ (c : Thread nD τ) none Set.univ (m := bP) (Finset.subset_univ _)) $$ H; iintro H
    rw [read_P]
    iapply Hk; iexact H
  · rw [show (owns (c : Thread nD τ) bR fullShare X : sProp 𝕄) = _ from owns_whole (c : Thread nD τ) cc0_scratch2 fullShare X]
    iintro H Hk
    iapply (wp_load 𝒱₀ (c : Thread nD τ) none Set.univ (m := bR) (Finset.subset_univ _)) $$ H; iintro H
    rw [read_R]
    iapply Hk; iexact H

theorem wp_storeV (c : Dev nD) {v : VB S1024x2048} (hv : IsScr v) {hx : (v.access allV).Stores Finset.univ} {hm}
    (X Y : Vec F S1024x2048 .f32) (kk : PR F) (Q : PUnit → sProp 𝕄) :
    (owns (c : Thread nD τ) v fullShare X : sProp 𝕄)
      ⊢ iprop((owns (c : Thread nD τ) v fullShare Y -∗ WP c kk Q) -∗ WP c (.op (.store v allV Y Finset.univ hx hm) fun _ => kk) Q) := by
  rcases hv with rfl | rfl | rfl
  · rw [show (owns (c : Thread nD τ) bW fullShare X : sProp 𝕄) = _ from owns_whole (c : Thread nD τ) cc0_scratch0 fullShare X,
      show (owns (c : Thread nD τ) bW fullShare Y : sProp 𝕄) = _ from owns_whole (c : Thread nD τ) cc0_scratch0 fullShare Y]
    iintro H Hk
    iapply (wp_store 𝒱₀ (c : Thread nD τ) none Set.univ (m := bW) (r := allV) (Mk := Finset.univ) (Finset.subset_univ _)) $$ H; iintro H
    rw [write_W]
    iapply Hk; iexact H
  · rw [show (owns (c : Thread nD τ) bP fullShare X : sProp 𝕄) = _ from owns_whole (c : Thread nD τ) cc0_scratch1 fullShare X,
      show (owns (c : Thread nD τ) bP fullShare Y : sProp 𝕄) = _ from owns_whole (c : Thread nD τ) cc0_scratch1 fullShare Y]
    iintro H Hk
    iapply (wp_store 𝒱₀ (c : Thread nD τ) none Set.univ (m := bP) (r := allV) (Mk := Finset.univ) (Finset.subset_univ _)) $$ H; iintro H
    rw [write_P]
    iapply Hk; iexact H
  · rw [show (owns (c : Thread nD τ) bR fullShare X : sProp 𝕄) = _ from owns_whole (c : Thread nD τ) cc0_scratch2 fullShare X,
      show (owns (c : Thread nD τ) bR fullShare Y : sProp 𝕄) = _ from owns_whole (c : Thread nD τ) cc0_scratch2 fullShare Y]
    iintro H Hk
    iapply (wp_store 𝒱₀ (c : Thread nD τ) none Set.univ (m := bR) (r := allV) (Mk := Finset.univ) (Finset.subset_univ _)) $$ H; iintro H
    rw [write_R]
    iapply Hk; iexact H

/-- The staged weights. -/
abbrev bG : VB S2048 := Memref.whole cc0_stg0_0

theorem read_G (f : Vec F S2048 .f32) : bG.view.readAt (Elt F) allG.toLoadRect f = f :=
  Memref.readAt_unit_zero (Elt F) cc0_stg0_0 hz1 _ f

theorem wp_loadG (c : Dev nD) {hl : bG.view.LoadsAt allG.toLoadRect} (g : Vec F S2048 .f32) (kk : Vec F S2048 .f32 → PR F)
    (Q : PUnit → sProp 𝕄) :
    (owns (c : Thread nD τ) bG fullShare g : sProp 𝕄)
      ⊢ iprop((owns (c : Thread nD τ) bG fullShare g -∗ WP c (kk g) Q) -∗ WP c (.op (.load bG allG.toLoadRect hl) kk) Q) := by
  rw [show (owns (c : Thread nD τ) bG fullShare g : sProp 𝕄) = _ from owns_whole (c : Thread nD τ) cc0_stg0_0 fullShare g]
  iintro H Hk
  iapply (wp_load 𝒱₀ (c : Thread nD τ) none Set.univ (m := bG) (Finset.subset_univ _)) $$ H; iintro H
  rw [read_G]
  iapply Hk; iexact H

/-! ## The addition of a chunk -/

theorem half_sum (A B C D : Vec F S1024x1024 .f32) (b : Bool) :
    half (sumOf (glue A B) (glue C D)) b
      = (addf (bif b then B else A : FVec F S1024x1024 .f32) (bif b then D else C) : FVec F S1024x1024 .f32) := by
  unfold sumOf
  rw [shapeCast_self]
  funext j
  cases b
  · exact congrArg₂ (FloatOps.addf (F := F) (φ := .f32)) (glue_left A B j) (glue_left C D j)
  · exact congrArg₂ (FloatOps.addf (F := F) (φ := .f32)) (glue_right A B j) (glue_right C D j)

/-- The addition of a chunk: the sums of both halves are in their send slots, the scratch buffers are the device's
    again. -/
theorem wp_acc (c : Dev nD) (aL aR pL pR oL oR : HB S1024x1024) (q₀ q₁ q₂ q₃ : PosShare TreeShare)
    (A B C D : Vec F S1024x1024 .f32) (k : ℕ) (kk : PR F) (Q : PUnit → sProp 𝕄) :
    iprop(levAts L lv ∗ owesE c (debt c k) ∗ cz4 c ∗ (some' c bW ∗ some' c bP ∗ some' c bR)
        ∗ (owns (c : Thread nD τ) aL q₀ A ∗ owns (c : Thread nD τ) aR q₁ B ∗ owns (c : Thread nD τ) pL q₂ C ∗ owns (c : Thread nD τ) pR q₃ D)
        ∗ some' c oL ∗ some' c oR)
      ⊢ iprop(((owesE c (debt c k) ∗ cz4 c ∗ (some' c bW ∗ some' c bP ∗ some' c bR)
        ∗ (owns (c : Thread nD τ) pL q₂ C ∗ owns (c : Thread nD τ) pR q₃ D)
        ∗ owns (c : Thread nD τ) oL fullShare (addf (A : FVec F S1024x1024 .f32) C)
        ∗ owns (c : Thread nD τ) oR fullShare (addf (B : FVec F S1024x1024 .f32) D)) -∗ WP c kk Q)
        -∗ WP c (acc bW bP bR aL aR pL pR oL oR kk) Q) := by
  unfold acc
  iintro ⟨#Hlev, HO, Hz, ⟨⟨%w, Hw⟩, ⟨%p, Hp⟩, ⟨%r, Hr⟩⟩, Ha, HoL, HoR⟩ Hk
  ihave Hw := (scr_split c (.inl rfl) w) $$ Hw
  ihave Hp := (scr_split c (.inr (.inl rfl)) p) $$ Hp
  icases Hw with ⟨HwL, HwR⟩
  icases Hp with ⟨HpL, HpR⟩
  iapply (wp_fetch4 c aL (colL bW) aR (colR bW) pL (colL bP) pR (colR bP) (by decide) (by decide) (by decide) (by decide)
    q₀ q₁ q₂ q₃ A B C D k) $$ [HO Hz Ha HwL HwR HpL HpR]
  · isplitr; · iexact Hlev
    isplitl [HO]; · iexact HO
    isplitl [Hz]; · iexact Hz
    isplitl [Ha]; · iexact Ha
    isplitl [HwL]; · iexists _; iexact HwL
    isplitl [HwR]; · iexists _; iexact HwR
    isplitl [HpL]; · iexists _; iexact HpL
    iexists _; iexact HpR
  iintro ⟨HO, ⟨Hz0, Hz1, Hz2, Hz3⟩, ⟨-, -, Ha2, Ha3⟩, HwL, HwR, HpL, HpR⟩
  ihave Hw := (scr_join c (.inl rfl) A B) $$ [HwL HwR]
  · isplitl [HwL] <;> iassumption
  ihave Hp := (scr_join c (.inr (.inl rfl)) C D) $$ [HpL HpR]
  · isplitl [HpL] <;> iassumption
  iapply (wp_loadV c (.inl rfl)) $$ Hw; iintro Hw
  iapply (wp_loadV c (.inr (.inl rfl))) $$ Hp; iintro Hp
  iapply (wp_loadV c (.inr (.inr rfl))) $$ Hr; iintro Hr
  iapply (wp_storeV c (.inr (.inr rfl))) $$ Hr; iintro Hr
  ihave Hr := (scr_split c (.inr (.inr rfl)) _) $$ Hr
  icases Hr with ⟨HrL, HrR⟩
  iapply (wp_cp c 0 (colL bR) oL (by decide) fullShare _) $$ [HrL HoL Hz0]
  · isplitl [HrL]; · iexact HrL
    isplitl [HoL]; · iexact HoL
    iexact Hz0
  iintro HF0
  iapply (wp_cp c 1 (colR bR) oR (by decide) fullShare _) $$ [HrR HoR Hz1]
  · isplitl [HrR]; · iexact HrR
    isplitl [HoR]; · iexact HoR
    iexact Hz1
  iintro HF1
  iapply (wp_copied c 0 (colL bR) oL fullShare _ k) $$ [HF0 HO]
  · isplitl [HF0]; · iexact HF0
    isplitr; · iexact Hlev
    iexact HO
  iintro ⟨HoL, HrL, Hz0, HO⟩
  iapply (wp_copied c 1 (colR bR) oR fullShare _ k) $$ [HF1 HO]
  · isplitl [HF1]; · iexact HF1
    isplitr; · iexact Hlev
    iexact HO
  iintro ⟨HoR, HrR, Hz1, HO⟩
  rw [half_sum, half_sum]
  ihave Hr := (scr_join c (.inr (.inr rfl)) _ _) $$ [HrL HrR]
  · isplitl [HrL] <;> iassumption
  iapply Hk
  isplitl [HO]; · iexact HO
  isplitl [Hz0 Hz1 Hz2 Hz3]
  · isplitl [Hz0]; · iexact Hz0
    isplitl [Hz1]; · iexact Hz1
    isplitl [Hz2] <;> iassumption
  isplitl [Hw Hp Hr]
  · isplitl [Hw]; · iexists _; iexact Hw
    isplitl [Hp]; · iexists _; iexact Hp
    iexists _; iexact Hr
  isplitl [Ha2 Ha3]; · isplitl [Ha2] <;> iassumption
  isplitl [HoL]; · iexact HoL
  iexact HoR

/-- The normalisation of a chunk: the normalised rows are in the result's block. -/
theorem wp_norm (c : Dev nD) (aL aR : HB S1024x1024) (pf rf o : HB S1024x2048) (q₀ q₁ q₂ q₃ : PosShare TreeShare)
    (A B : Vec F S1024x1024 .f32) (P R : Vec F S1024x2048 .f32) (g : Vec F S2048 .f32) (k : ℕ) (kk : PR F)
    (Q : PUnit → sProp 𝕄) :
    iprop(levAts L lv ∗ owesE c (debt c k) ∗ cz4 c ∗ (some' c bW ∗ some' c bP ∗ some' c bR)
        ∗ (owns (c : Thread nD τ) aL q₀ A ∗ owns (c : Thread nD τ) aR q₁ B ∗ owns (c : Thread nD τ) pf q₂ P ∗ owns (c : Thread nD τ) rf q₃ R)
        ∗ owns (c : Thread nD τ) bG fullShare g ∗ some' c o)
      ⊢ iprop(((owesE c (debt c k) ∗ cz4 c ∗ (some' c bW ∗ some' c bP ∗ some' c bR)
        ∗ (owns (c : Thread nD τ) pf q₂ P ∗ owns (c : Thread nD τ) rf q₃ R)
        ∗ owns (c : Thread nD τ) bG fullShare g
        ∗ owns (c : Thread nD τ) o fullShare (normOf (glue A B) P R g)) -∗ WP c kk Q)
        -∗ WP c (norm bW bP bR bG aL aR pf rf o kk) Q) := by
  unfold norm
  iintro ⟨#Hlev, HO, Hz, ⟨⟨%w, Hw⟩, Hp, Hr⟩, Ha, Hg, Ho⟩ Hk
  ihave Hw := (scr_split c (.inl rfl) w) $$ Hw
  icases Hw with ⟨HwL, HwR⟩
  iapply (wp_fetch4 c aL (colL bW) aR (colR bW) pf bP rf bR (by decide) (by decide) (by decide) (by decide)
    q₀ q₁ q₂ q₃ A B P R k) $$ [HO Hz Ha HwL HwR Hp Hr]
  · isplitr; · iexact Hlev
    isplitl [HO]; · iexact HO
    isplitl [Hz]; · iexact Hz
    isplitl [Ha]; · iexact Ha
    isplitl [HwL]; · iexists _; iexact HwL
    isplitl [HwR]; · iexists _; iexact HwR
    isplitl [Hp]; · iexact Hp
    iexact Hr
  iintro ⟨HO, ⟨Hz0, Hz1, Hz2, Hz3⟩, ⟨-, -, Ha2, Ha3⟩, HwL, HwR, Hp, Hr⟩
  ihave Hw := (scr_join c (.inl rfl) A B) $$ [HwL HwR]
  · isplitl [HwL] <;> iassumption
  iapply (wp_loadV c (.inl rfl)) $$ Hw; iintro Hw
  iapply (wp_loadV c (.inr (.inl rfl))) $$ Hp; iintro Hp
  iapply (wp_loadV c (.inr (.inr rfl))) $$ Hr; iintro Hr
  iapply (wp_loadG c) $$ Hg; iintro Hg
  iapply (wp_loadV c (.inl rfl)) $$ Hw; iintro Hw
  iapply (wp_storeV c (.inl rfl)) $$ Hw; iintro Hw
  iapply (wp_cp c 0 bW o (by decide) fullShare _) $$ [Hw Ho Hz0]
  · isplitl [Hw]; · iexact Hw
    isplitl [Ho]; · iexact Ho
    iexact Hz0
  iintro HF0
  iapply (wp_copied c 0 bW o fullShare _ k) $$ [HF0 HO]
  · isplitl [HF0]; · iexact HF0
    isplitr; · iexact Hlev
    iexact HO
  iintro ⟨Ho, Hw, Hz0, HO⟩
  iapply Hk
  isplitl [HO]; · iexact HO
  isplitl [Hz0 Hz1 Hz2 Hz3]
  · isplitl [Hz0]; · iexact Hz0
    isplitl [Hz1]; · iexact Hz1
    isplitl [Hz2] <;> iassumption
  isplitl [Hw Hp Hr]
  · isplitl [Hw]; · iexists _; iexact Hw
    isplitl [Hp]; · iexists _; iexact Hp
    iexists _; iexact Hr
  isplitl [Ha2 Ha3]; · isplitl [Ha2] <;> iassumption
  isplitl [Hg]; · iexact Hg
  iexact Ho

end Cert.KernelIdeal.Ring
-- ==== Proof.RunI.Out.lean ====
/-
The buffers cut into what the transfers read and write: the result into half blocks, the receive buffers and the send
buffers into their slots.
-/
module

public import proofs.«01_k».proof.Proof.RunI.Hop
public import proofs.«01_k».proof.Proof.RunI.Geo

@[expose] public section

set_option maxRecDepth 16384

noncomputable section

namespace Cert.KernelIdeal.Ring

open Cert.KernelIdeal Cert.KernelIdeal.Gen
open Idealize.ShloMosaic
open Idealize.ShloMosaic.TcCoe
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The half blocks of the result -/

/-- The block of a row, and whether a column is on the right. -/
def keyOf (i : S8192x2048.Idx) : Fin 4 × Bool :=
  (⟨(i 0).val / 2048, by have h : (i 0).val < 8192 := (i 0).isLt; omega⟩, decide (1024 ≤ (i 1).val))
/-- A half block. -/
def outK (k : Fin 4 × Bool) : Finset S8192x2048.Idx := Finset.univ.filter fun i => keyOf i = k
/-- A row chunk of a block. -/
def outR (k : Fin 8) : Finset S8192x2048.Idx := Finset.univ.filter fun i => (i 0).val / 1024 = k.val

/-- The block that passes device `c` at step `t` in direction `b`. -/
def blk (c : Dev nD) (t : Fin 4) (b : Bool) : Fin 4 :=
  ⟨(if b then c.val + t.val else c.val + 4 - t.val) % 4, Nat.mod_lt _ (by decide)⟩
/-- The corner of a half block. -/
def cornB (k : Fin 4 × Bool) : Fin 2 → ℕ := ![2048 * k.1.val, if k.2 then 1024 else 0]
/-- The corner of a row chunk. -/
def cornR (k : Fin 8) : Fin 2 → ℕ := ![1024 * k.val, 0]
/-- The row chunk `r` of device `c`'s block. -/
def chk (c : Dev nD) (r : Fin 2) : Fin 8 := ⟨2 * c.val + r.val, by have h : c.val < 4 := c.isLt; have := r.isLt; omega⟩

theorem off7_0 : ∀ c : Dev nD, k0_off7 c 0#32 = cornB (blk c 0 false, false) := by decide +kernel
theorem off7_1 : ∀ c : Dev nD, k0_off7 c 1#32 = cornB (blk c 1 false, false) := by decide +kernel
theorem off7_2 : ∀ c : Dev nD, k0_off7 c 2#32 = cornB (blk c 2 false, false) := by decide +kernel
theorem off8_0 : ∀ c : Dev nD, k0_off8 c 0#32 = cornB (blk c 0 true, true) := by decide +kernel
theorem off8_1 : ∀ c : Dev nD, k0_off8 c 1#32 = cornB (blk c 1 true, true) := by decide +kernel
theorem off8_2 : ∀ c : Dev nD, k0_off8 c 2#32 = cornB (blk c 2 true, true) := by decide +kernel
theorem off6_0 : ∀ c : Dev nD, k0_off6 c 0#32 = cornR (chk c 0) := by decide +kernel
theorem off6_1 : ∀ c : Dev nD, k0_off6 c 1024#32 = cornR (chk c 1) := by decide +kernel
theorem blk_prv : ∀ c : Dev nD, blk (prv c) 0 false = blk c 1 false ∧ blk (prv c) 1 false = blk c 2 false
    ∧ blk (prv c) 2 false = blk c 3 false := by decide +kernel
theorem blk_nxt : ∀ c : Dev nD, blk (nxt c) 0 true = blk c 1 true ∧ blk (nxt c) 1 true = blk c 2 true
    ∧ blk (nxt c) 2 true = blk c 3 true := by decide +kernel
theorem blk_own : ∀ (c : Dev nD) (b : Bool), blk c 0 b = (⟨c.val, c.isLt⟩ : Fin 4) := by decide +kernel

theorem set_outB (o : Fin 2 → ℕ) (h) (k : Fin 4 × Bool) (ho : o = cornB k) : (outB bOut o h).view.set = outK k := by
  refine (View.set_slice_whole main_v1_0 (Rect.unit (s := S8192x2048) o S2048x1024.size h)).trans ?_
  subst ho
  obtain ⟨k, b⟩ := k
  ext i
  rw [Rect.mem_set_unit]
  unfold outK keyOf
  rw [Finset.mem_filter, Prod.mk.injEq, Fin.ext_iff]
  have hk := k.isLt
  have h0 : (i 0).val < 8192 := (i 0).isLt
  have h1 : (i 1).val < 2048 := (i 1).isLt
  constructor
  · intro hi
    have a0 : 2048 * k.val ≤ (i 0).val ∧ (i 0).val < 2048 * k.val + 2048 := hi 0
    have a1 : (if b then 1024 else 0) ≤ (i 1).val ∧ (i 1).val < (if b then 1024 else 0) + 1024 := hi 1
    refine ⟨Finset.mem_univ _, ?_, ?_⟩
    · show (i 0).val / 2048 = k.val; omega
    · cases b
      · exact decide_eq_false (by have := a1.2; simp only [Bool.false_eq_true, if_false] at this; omega)
      · exact decide_eq_true (by have := a1.1; simpa using this)
  · rintro ⟨-, a0, a1⟩ a
    have a0 : (i 0).val / 2048 = k.val := a0
    fin_cases a
    · show 2048 * k.val ≤ (i 0).val ∧ (i 0).val < 2048 * k.val + 2048; omega
    · show (if b then 1024 else 0) ≤ (i 1).val ∧ (i 1).val < (if b then 1024 else 0) + 1024
      cases b
      · have := of_decide_eq_false a1; simp only [Bool.false_eq_true, if_false]; omega
      · have := of_decide_eq_true a1; simp only [if_true]; omega

theorem set_rowC (o : Fin 2 → ℕ) (h) (k : Fin 8) (ho : o = cornR k) : (rowC bOut o h).view.set = outR k := by
  refine (View.set_slice_whole main_v1_0 (Rect.unit (s := S8192x2048) o S1024x2048.size h)).trans ?_
  subst ho
  ext i
  rw [Rect.mem_set_unit]
  unfold outR
  rw [Finset.mem_filter]
  have hk := k.isLt
  have h0 : (i 0).val < 8192 := (i 0).isLt
  have h1 : (i 1).val < 2048 := (i 1).isLt
  constructor
  · intro hi
    have a0 : 1024 * k.val ≤ (i 0).val ∧ (i 0).val < 1024 * k.val + 1024 := hi 0
    exact ⟨Finset.mem_univ _, by omega⟩
  · rintro ⟨-, a0⟩ a
    fin_cases a
    · show 1024 * k.val ≤ (i 0).val ∧ (i 0).val < 1024 * k.val + 1024; omega
    · show 0 ≤ (i 1).val ∧ (i 1).val < 0 + 2048; omega

theorem outK_disj {k k' : Fin 4 × Bool} (h : k ≠ k') : Disjoint (outK k) (outK k') :=
  Finset.disjoint_left.mpr fun i hi hi' => h ((Finset.mem_filter.mp hi).2.symm.trans (Finset.mem_filter.mp hi').2)

theorem outR_disj {k k' : Fin 8} (h : k ≠ k') : Disjoint (outR k) (outR k') :=
  Finset.disjoint_left.mpr fun i hi hi' => h (Fin.ext ((Finset.mem_filter.mp hi).2.symm.trans (Finset.mem_filter.mp hi').2))

theorem own_union (c : Dev nD) :
    outK (blk c 0 false, false) ∪ outK (blk c 0 true, true) = outR (chk c 0) ∪ outR (chk c 1) := by
  ext i
  rw [blk_own, blk_own]
  unfold outK outR keyOf chk
  simp only [Finset.mem_union, Finset.mem_filter, Finset.mem_univ, true_and, Prod.mk.injEq, Fin.ext_iff, decide_eq_false_iff_not,
    decide_eq_true_eq]
  have h : c.val < 4 := c.isLt
  show _ ↔ ((i 0).val / 1024 = 2 * c.val + 0 ∨ (i 0).val / 1024 = 2 * c.val + 1)
  omega

/-- A device's part of the result. -/
abbrev outAt (c : Dev nD) (S : Finset S8192x2048.Idx) (f : Vec F S8192x2048 .f32) : sProp 𝕄 :=
  (((c : Thread nD τ).loc main_v1_0) ↦[S]{fullShare} (f : Buf (Elt F) ((c : Thread nD τ).loc main_v1_0)))

/-- The result's half blocks in the order in which they pass device `c`. -/
theorem out_list (c : Dev nD) (f : Vec F S8192x2048 .f32) :
    (outAt c Finset.univ f : sProp 𝕄)
      = iprop(outAt c (outK (blk c 0 false, false)) f ∗ outAt c (outK (blk c 0 true, true)) f
        ∗ outAt c (outK (blk c 1 false, false)) f ∗ outAt c (outK (blk c 2 false, false)) f ∗ outAt c (outK (blk c 3 false, false)) f
        ∗ outAt c (outK (blk c 1 true, true)) f ∗ outAt c (outK (blk c 2 true, true)) f ∗ outAt c (outK (blk c 3 true, true)) f) := by
  have hu : (Finset.univ : Finset S8192x2048.Idx) = (Finset.univ : Finset (Fin 4 × Bool)).biUnion outK := by
    ext i; simp only [Finset.mem_univ, Finset.mem_biUnion, true_and, true_iff]
    exact ⟨keyOf i, Finset.mem_filter.mpr ⟨Finset.mem_univ _, rfl⟩⟩
  unfold outAt
  rw [hu]
  refine (pointsTo_biUnion (ℓ := (c : Thread nD τ).loc main_v1_0) Finset.univ outK (fun k _ k' _ h => outK_disj h)).trans ?_
  rw [bigSep_univ_eq_bigSepL [(blk c 0 false, false), (blk c 0 true, true), (blk c 1 false, false), (blk c 2 false, false),
      (blk c 3 false, false), (blk c 1 true, true), (blk c 2 true, true), (blk c 3 true, true)]
      (by revert c; decide +kernel) (by revert c; decide +kernel)]
  simp only [bigSepL_cons_cons, bigSepL_singleton]
  rfl

/-- A half block as the target of a transfer. -/
theorem hole_out (c : Dev nD) (o : Fin 2 → ℕ) (h) (k : Fin 4 × Bool) (ho : o = cornB k) (f : Vec F S8192x2048 .f32) :
    (outAt c (outK k) f : sProp 𝕄) ⊢ hole c (outB bOut o h) := by
  unfold outAt hole
  rw [← set_outB o h k ho]
  iintro H
  iexists _
  iapply (owns_at (outB bOut o h) c fullShare f); iexact H

/-- A half block owned at contents of the whole result. -/
theorem owns_out (c : Dev nD) (o : Fin 2 → ℕ) (h) (k : Fin 4 × Bool) (ho : o = cornB k) (f : Vec F S8192x2048 .f32) :
    (outAt c (outK k) f : sProp 𝕄) ⊢ owns (c : Thread nD τ) (outB bOut o h) fullShare ((outB bOut o h).view.read (Elt F) f) := by
  unfold outAt
  rw [← set_outB o h k ho]
  exact owns_at (outB bOut o h) c fullShare f

theorem out_owns (c : Dev nD) (o : Fin 2 → ℕ) (h) (k : Fin 4 × Bool) (ho : o = cornB k) (f : Vec F S8192x2048 .f32) :
    owns (c : Thread nD τ) (outB bOut o h) fullShare ((outB bOut o h).view.read (Elt F) f) ⊢ (outAt c (outK k) f : sProp 𝕄) := by
  unfold outAt
  rw [← set_outB o h k ho]
  exact at_owns (outB bOut o h) c fullShare f

/-- Nothing has come to device `c`'s own block yet: its two row chunks are free. -/
theorem own_free (c : Dev nD) (h0) (h1) (f : Vec F S8192x2048 .f32) :
    iprop(outAt c (outK (blk c 0 false, false)) f ∗ outAt c (outK (blk c 0 true, true)) f)
      ⊢ (iprop((∃ X, owns (c : Thread nD τ) (rowC bOut (k0_off6 c 0#32) h0) fullShare X)
        ∗ ∃ X, owns (c : Thread nD τ) (rowC bOut (k0_off6 c 1024#32) h1) fullShare X) : sProp 𝕄) := by
  have hd : chk c 0 ≠ chk c 1 := fun h => by
    have h2 := congrArg Fin.val h
    have : 2 * c.val + 0 = 2 * c.val + 1 := h2
    omega
  unfold outAt
  refine (pointsTo_union (outK_disj (fun h => Bool.false_ne_true (congrArg Prod.snd h)))).2.trans ?_
  rw [own_union]
  refine (pointsTo_union (outR_disj hd)).1.trans ?_
  rw [← set_rowC _ h0 _ (off6_0 c), ← set_rowC _ h1 _ (off6_1 c)]
  iintro ⟨H0, H1⟩
  isplitl [H0]
  · iexists _; iapply (owns_at (rowC bOut (k0_off6 c 0#32) h0) c fullShare f); iexact H0
  · iexists _; iapply (owns_at (rowC bOut (k0_off6 c 1024#32) h1) c fullShare f); iexact H1

/-- Both row chunks filled: the two half blocks. -/
theorem own_full (c : Dev nD) (h0) (h1) (f : Vec F S8192x2048 .f32) :
    iprop(owns (c : Thread nD τ) (rowC bOut (k0_off6 c 0#32) h0) fullShare ((rowC bOut (k0_off6 c 0#32) h0).view.read (Elt F) f)
        ∗ owns (c : Thread nD τ) (rowC bOut (k0_off6 c 1024#32) h1) fullShare ((rowC bOut (k0_off6 c 1024#32) h1).view.read (Elt F) f))
      ⊢ (iprop(outAt c (outK (blk c 0 false, false)) f ∗ outAt c (outK (blk c 0 true, true)) f) : sProp 𝕄) := by
  have hd : chk c 0 ≠ chk c 1 := fun h => by
    have h2 := congrArg Fin.val h
    have : 2 * c.val + 0 = 2 * c.val + 1 := h2
    omega
  unfold outAt
  refine BIBase.Entails.trans ?_ (pointsTo_union (outK_disj (fun h => Bool.false_ne_true (congrArg Prod.snd h)))).1
  rw [own_union]
  refine BIBase.Entails.trans ?_ (pointsTo_union (outR_disj hd)).2
  rw [← set_rowC _ h0 _ (off6_0 c), ← set_rowC _ h1 _ (off6_1 c)]
  iintro ⟨H0, H1⟩
  isplitl [H0]
  · iapply (at_owns (rowC bOut (k0_off6 c 0#32) h0) c fullShare f); iexact H0
  · iapply (at_owns (rowC bOut (k0_off6 c 1024#32) h1) c fullShare f); iexact H1

/-- The normalised chunk is where the result has it. -/
theorem nchunk_read (c : Dev nD) (r : Fin 2) (o : Fin 2 → ℕ) (h) (ho : o = cornR (chk c r)) :
    (rowC bOut o h).view.read (Elt F) (outF m) = nchunk m c r := by
  subst ho
  funext j
  show outF m ((Rect.unit (s := S8192x2048) (cornR (chk c r)) S1024x2048.size h).emb j) = _
  have hj : (j 0).val < 1024 := (j 0).isLt
  have hc : c.val < 4 := c.isLt
  have hr := r.isLt
  have e0 : (((Rect.unit (s := S8192x2048) (cornR (chk c r)) S1024x2048.size h).emb j) 0).val
      = 1024 * (2 * c.val + r.val) + (j 0).val :=
    (Rect.emb_apply _ _ _).trans (by show 1024 * (2 * c.val + r.val) + 1 * (j 0).val = _; omega)
  have e1 : (((Rect.unit (s := S8192x2048) (cornR (chk c r)) S1024x2048.size h).emb j) 1).val = (j 1).val :=
    (Rect.emb_apply _ _ _).trans (by show 0 + 1 * (j 1).val = _; omega)
  generalize (Rect.unit (s := S8192x2048) (cornR (chk c r)) S1024x2048.size h).emb j = i at e0 e1
  unfold outF
  have hd : (⟨(i 0).val / 2048, by have h : (i 0).val < 8192 := (i 0).isLt; show _ < 4; omega⟩ : Dev nD) = c :=
    Fin.ext (by show (i 0).val / 2048 = c.val; omega)
  have hr' : (⟨(i 0).val % 2048 / 1024, by omega⟩ : Fin 2) = r := Fin.ext (by show (i 0).val % 2048 / 1024 = r.val; omega)
  have hi : (ix2 (⟨(i 0).val % 1024, by omega⟩ : Fin 1024) (i 1 : Fin 2048) : S1024x2048.Idx) = j := by
    funext a
    apply Fin.ext
    fin_cases a
    · show (i 0).val % 1024 = (j 0).val; omega
    · exact e1
  rw [hd, hr', hi]

/-! ## What arrives at one hop of the second phase is what leaves at the next -/

theorem same_outB (c : Dev nD) (o o' : Fin 2 → ℕ) (h) (h') (e : o = o') (f : Vec F S8192x2048 .f32) :
    (owns (c : Thread nD τ) (outB bOut o h) fullShare ((outB bOut o h).view.read (Elt F) f) : sProp 𝕄)
      ⊢ owns (c : Thread nD τ) (outB bOut o' h') fullShare ((outB bOut o' h').view.read (Elt F) f) := by
  subst e; exact Entails.rfl

theorem relay3F (c : Dev nD) : (recvPay m c 3 false : sProp 𝕄) ⊢ sendPay m c 4 false :=
  same_outB c _ _ (k0_off7_inb (prv c) 0) (k0_off7_inb c 1) (((off7_0 (prv c)).trans (by rw [(blk_prv c).1])).trans (off7_1 c).symm) (outF m)
theorem relay3T (c : Dev nD) : (recvPay m c 3 true : sProp 𝕄) ⊢ sendPay m c 4 true :=
  same_outB c _ _ (k0_off8_inb (nxt c) 0) (k0_off8_inb c 1) (((off8_0 (nxt c)).trans (by rw [(blk_nxt c).1])).trans (off8_1 c).symm) (outF m)
theorem relay4F (c : Dev nD) : (recvPay m c 4 false : sProp 𝕄) ⊢ sendPay m c 5 false :=
  same_outB c _ _ (k0_off7_inb (prv c) 1) (k0_off7_inb c 2) (((off7_1 (prv c)).trans (by rw [(blk_prv c).2.1])).trans (off7_2 c).symm) (outF m)
theorem relay4T (c : Dev nD) : (recvPay m c 4 true : sProp 𝕄) ⊢ sendPay m c 5 true :=
  same_outB c _ _ (k0_off8_inb (nxt c) 1) (k0_off8_inb c 2) (((off8_1 (nxt c)).trans (by rw [(blk_nxt c).2.1])).trans (off8_2 c).symm) (outF m)

/-- The own block's halves are what leaves first. -/
theorem own_send (c : Dev nD) :
    iprop(outAt c (outK (blk c 0 false, false)) (outF m) ∗ outAt c (outK (blk c 0 true, true)) (outF m))
      ⊢ (iprop(sendPay m c 3 false ∗ sendPay m c 3 true) : sProp 𝕄) :=
  BI.sep_mono (owns_out c _ (k0_off7_inb c 0) _ (off7_0 c) (outF m)) (owns_out c _ (k0_off8_inb c 0) _ (off8_0 c) (outF m))

/-- All that left or came last is the whole result. -/
theorem out_end (c : Dev nD) :
    iprop((sendPay m c 3 false ∗ sendPay m c 3 true) ∗ (sendPay m c 4 false ∗ sendPay m c 4 true)
        ∗ (sendPay m c 5 false ∗ sendPay m c 5 true) ∗ (recvPay m c 5 false ∗ recvPay m c 5 true))
      ⊢ (outAt c Finset.univ (outF m) : sProp 𝕄) := by
  rw [out_list]
  iintro ⟨⟨A0, B0⟩, ⟨A1, B1⟩, ⟨A2, B2⟩, A3, B3⟩
  isplitl [A0]; · iapply (show (sendPay m c 3 false : sProp 𝕄) ⊢ _ from out_owns c _ (k0_off7_inb c 0) _ (off7_0 c) (outF m)); iexact A0
  isplitl [B0]; · iapply (show (sendPay m c 3 true : sProp 𝕄) ⊢ _ from out_owns c _ (k0_off8_inb c 0) _ (off8_0 c) (outF m)); iexact B0
  isplitl [A1]; · iapply (show (sendPay m c 4 false : sProp 𝕄) ⊢ _ from out_owns c _ (k0_off7_inb c 1) _ (off7_1 c) (outF m)); iexact A1
  isplitl [A2]; · iapply (show (sendPay m c 5 false : sProp 𝕄) ⊢ _ from out_owns c _ (k0_off7_inb c 2) _ (off7_2 c) (outF m)); iexact A2
  isplitl [A3]
  · iapply (show (recvPay m c 5 false : sProp 𝕄) ⊢ _ from out_owns c _ (k0_off7_inb (prv c) 2) _
      ((off7_2 (prv c)).trans (by rw [(blk_prv c).2.2])) (outF m)); iexact A3
  isplitl [B1]; · iapply (show (sendPay m c 4 true : sProp 𝕄) ⊢ _ from out_owns c _ (k0_off8_inb c 1) _ (off8_1 c) (outF m)); iexact B1
  isplitl [B2]; · iapply (show (sendPay m c 5 true : sProp 𝕄) ⊢ _ from out_owns c _ (k0_off8_inb c 2) _ (off8_2 c) (outF m)); iexact B2
  iapply (show (recvPay m c 5 true : sProp 𝕄) ⊢ _ from out_owns c _ (k0_off8_inb (nxt c) 2) _
      ((off8_2 (nxt c)).trans (by rw [(blk_nxt c).2.2])) (outF m)); iexact B3

/-! ## The slots -/

/-- A region cut out of a part of a buffer. -/
theorem carve {sp : Space} {s : Shape} (M : Memref sig .tc sp s .f32) (c : Dev nD) (q : PosShare TreeShare)
    (S : Finset (Idx (M.view.loc (c : Thread nD τ)))) (hS : M.view.set ⊆ S) (f : Buf (Elt F) (M.view.loc (c : Thread nD τ))) :
    (M.view.loc (c : Thread nD τ) ↦[S]{q} f) ⊢ (iprop((∃ X, owns (c : Thread nD τ) M q X)
      ∗ (M.view.loc (c : Thread nD τ) ↦[S \ M.view.set]{q} f)) : sProp 𝕄) := by
  iintro H
  ihave H2 := (pointsTo_split_subset hS).1 $$ H
  icases H2 with ⟨H1, H2⟩
  isplitl [H1]
  · iexists _; iapply (owns_at M c q f); iexact H1
  iexact H2

/-- A slot holds only indices of its own number. -/
theorem slot_mem {n : ℕ} (W : HB ⟨3, ![n, 2048, 1024]⟩) (k : ℕ) (h : ∀ a, (![k, 0, 0] : Fin 3 → ℕ) a + S1x2048x1024.size a ≤ (⟨3, ![n, 2048, 1024]⟩ : Shape).size a)
    {x} (hx : x ∈ ((W.slice (Rect.unit (s := ⟨3, ![n, 2048, 1024]⟩) ![k, 0, 0] S1x2048x1024.size h) (fun _ => rfl)).squeeze S2048x1024
      squeezes_S1x2048x1024_S2048x1024).view.set) :
    ∃ i : (⟨3, ![n, 2048, 1024]⟩ : Shape).Idx, (i 0).val = k ∧ W.view.emb i = x := by
  obtain ⟨j, -, rfl⟩ := Finset.mem_map.mp hx
  refine ⟨(Rect.unit (s := ⟨3, ![n, 2048, 1024]⟩) ![k, 0, 0] S1x2048x1024.size h).emb (Shape.reshapeEquiv _ j), ?_, rfl⟩
  rw [show Shape.reshapeEquiv _ j = _ from sq_emb 2048 1024 _ j]
  exact (Rect.emb_apply (Rect.unit (s := ⟨3, ![n, 2048, 1024]⟩) ![k, 0, 0] S1x2048x1024.size h) _ 0).trans (by show k + 1 * 0 = k; omega)

theorem slot_sub {n : ℕ} (W : HB ⟨3, ![n, 2048, 1024]⟩) (k k' : ℕ) (hkk : k ≠ k') (h) (h') :
    Disjoint ((W.slice (Rect.unit (s := ⟨3, ![n, 2048, 1024]⟩) ![k, 0, 0] S1x2048x1024.size h) (fun _ => rfl)).squeeze S2048x1024
      squeezes_S1x2048x1024_S2048x1024).view.set
      ((W.slice (Rect.unit (s := ⟨3, ![n, 2048, 1024]⟩) ![k', 0, 0] S1x2048x1024.size h') (fun _ => rfl)).squeeze S2048x1024
      squeezes_S1x2048x1024_S2048x1024).view.set := by
  rw [Finset.disjoint_left]
  intro x hx hx'
  obtain ⟨i, hi, rfl⟩ := slot_mem W k h hx
  obtain ⟨i', hi', he⟩ := slot_mem W k' h' hx'
  have := W.view.emb.injective he
  subst this
  exact hkk (hi.symm.trans hi')

theorem sub_of {α : Type} [DecidableEq α] [Fintype α] {A B : Finset α} (h : Disjoint A B) : A ⊆ Finset.univ \ B :=
  fun x hx => Finset.mem_sdiff.mpr ⟨Finset.mem_univ _, Finset.disjoint_left.mp h hx⟩

theorem sub_of2 {α : Type} [DecidableEq α] [Fintype α] {A B C : Finset α} (h : Disjoint A B) (h' : Disjoint A C) :
    A ⊆ (Finset.univ \ B) \ C :=
  fun x hx => Finset.mem_sdiff.mpr ⟨sub_of h hx, Finset.disjoint_left.mp h' hx⟩

/-- A slot of a receive buffer. -/
abbrev sl0 (W : HB S3x2048x1024) : HB S2048x1024 := slot3 W ![0, 0, 0] inb_S3x2048x1024_S1x2048x1024_0_0_0
abbrev sl1 (W : HB S3x2048x1024) : HB S2048x1024 := slot3 W ![1, 0, 0] inb_S3x2048x1024_S1x2048x1024_1_0_0
abbrev sl2 (W : HB S3x2048x1024) : HB S2048x1024 := slot3 W ![2, 0, 0] inb_S3x2048x1024_S1x2048x1024_2_0_0

theorem d10 (W : HB S3x2048x1024) : Disjoint (sl1 W).view.set (sl0 W).view.set := slot_sub (n := 3) W 1 0 (by decide) _ _
theorem d20 (W : HB S3x2048x1024) : Disjoint (sl2 W).view.set (sl0 W).view.set := slot_sub (n := 3) W 2 0 (by decide) _ _
theorem d21 (W : HB S3x2048x1024) : Disjoint (sl2 W).view.set (sl1 W).view.set := slot_sub (n := 3) W 2 1 (by decide) _ _

/-- Three disjoint regions cut out of a buffer. -/
theorem carve3 (ℓ : Loc nD τ sig) (A B C : Finset (Idx ℓ)) (hBA : Disjoint B A) (hCA : Disjoint C A) (hCB : Disjoint C B)
    (f : Buf (Elt F) ℓ) :
    (ℓ ↦{fullShare} f) ⊢ (iprop((ℓ ↦[A]{fullShare} f) ∗ (ℓ ↦[B]{fullShare} f) ∗ (ℓ ↦[C]{fullShare} f)) : sProp 𝕄) := by
  iintro H
  ihave H := (pointsTo_split_subset (Finset.subset_univ A)).1 $$ H
  icases H with ⟨H0, H⟩
  ihave H := (pointsTo_split_subset (sub_of hBA)).1 $$ H
  icases H with ⟨H1, H⟩
  ihave H := (pointsTo_split_subset (sub_of2 hCA hCB)).1 $$ H
  icases H with ⟨H2, -⟩
  isplitl [H0]; · iexact H0
  isplitl [H1] <;> iassumption

theorem hole_at (M : HB S2048x1024) (c : Dev nD) (f : Buf (Elt F) (M.view.loc (c : Thread nD τ))) :
    (M.view.loc (c : Thread nD τ) ↦[M.view.set]{fullShare} f) ⊢ (hole c M : sProp 𝕄) := by
  unfold hole
  iintro H
  iexists _; iapply (owns_at M c fullShare f); iexact H

/-- A receive buffer's three slots. -/
theorem recv_slotsR (c : Dev nD) (f : Buf (Elt F) ((c : Thread nD τ).loc main_v1_1)) :
    (((c : Thread nD τ).loc main_v1_1) ↦{fullShare} f) ⊢ (iprop(hole c (tgtM (prv c) 0 false) ∗ hole c (tgtM (prv c) 1 false)
      ∗ hole c (tgtM (prv c) 2 false)) : sProp 𝕄) :=
  (carve3 ((c : Thread nD τ).loc main_v1_1) (sl0 bRr).view.set (sl1 bRr).view.set (sl2 bRr).view.set (d10 bRr) (d20 bRr) (d21 bRr) f).trans
    (BI.sep_mono (hole_at (sl0 bRr) c f) (BI.sep_mono (hole_at (sl1 bRr) c f) (hole_at (sl2 bRr) c f)))

theorem recv_slotsL (c : Dev nD) (f : Buf (Elt F) ((c : Thread nD τ).loc main_v1_2)) :
    (((c : Thread nD τ).loc main_v1_2) ↦{fullShare} f) ⊢ (iprop(hole c (tgtM (nxt c) 0 true) ∗ hole c (tgtM (nxt c) 1 true)
      ∗ hole c (tgtM (nxt c) 2 true)) : sProp 𝕄) :=
  (carve3 ((c : Thread nD τ).loc main_v1_2) (sl0 bRl).view.set (sl1 bRl).view.set (sl2 bRl).view.set (d10 bRl) (d20 bRl) (d21 bRl) f).trans
    (BI.sep_mono (hole_at (sl0 bRl) c f) (BI.sep_mono (hole_at (sl1 bRl) c f) (hole_at (sl2 bRl) c f)))

/-- The rows of the send slots, free. -/
def sendFree (c : Dev nD) (W : HB S2x2048x1024) : sProp 𝕄 :=
  iprop((∃ X, owns (c : Thread nD τ) (chunk2 W ![0, 0, 0] inb_S2x2048x1024_S1x1024x1024_0_0_0) fullShare X)
    ∗ (∃ X, owns (c : Thread nD τ) (chunk2 W ![0, 1024, 0] inb_S2x2048x1024_S1x1024x1024_0_1024_0) fullShare X)
    ∗ (∃ X, owns (c : Thread nD τ) (chunk2 W ![1, 0, 0] inb_S2x2048x1024_S1x1024x1024_1_0_0) fullShare X)
    ∗ (∃ X, owns (c : Thread nD τ) (chunk2 W ![1, 1024, 0] inb_S2x2048x1024_S1x1024x1024_1_1024_0) fullShare X))

theorem send_slotsR (c : Dev nD) (f : Buf (Elt F) ((c : Thread nD τ).loc main_v1_3)) :
    (((c : Thread nD τ).loc main_v1_3) ↦{fullShare} f) ⊢ (sendFree c bSr : sProp 𝕄) := by
  unfold sendFree
  iintro H
  ihave H := (carve (slot2 bSr ![0, 0, 0] inb_S2x2048x1024_S1x2048x1024_0_0_0) c fullShare Finset.univ (Finset.subset_univ _) f) $$ H
  icases H with ⟨⟨%X, H0⟩, H⟩
  ihave H := (carve (slot2 bSr ![1, 0, 0] inb_S2x2048x1024_S1x2048x1024_1_0_0) c fullShare _ (sub_of (slot_sub bSr 1 0 (by decide) _ _)) f) $$ H
  icases H with ⟨⟨%Y, H1⟩, -⟩
  ihave H0 := (slot2_split c (.inl rfl) 0 _ inb_S2x2048x1024_S1x1024x1024_0_0_0 inb_S2x2048x1024_S1x1024x1024_0_1024_0 X) $$ H0
  ihave H1 := (slot2_split c (.inl rfl) 1 _ inb_S2x2048x1024_S1x1024x1024_1_0_0 inb_S2x2048x1024_S1x1024x1024_1_1024_0 Y) $$ H1
  icases H0 with ⟨H0, H0'⟩
  icases H1 with ⟨H1, H1'⟩
  isplitl [H0]; · iexists _; iexact H0
  isplitl [H0']; · iexists _; iexact H0'
  isplitl [H1]; · iexists _; iexact H1
  iexists _; iexact H1'

theorem send_slotsL (c : Dev nD) (f : Buf (Elt F) ((c : Thread nD τ).loc main_v1_4)) :
    (((c : Thread nD τ).loc main_v1_4) ↦{fullShare} f) ⊢ (sendFree c bSl : sProp 𝕄) := by
  unfold sendFree
  iintro H
  ihave H := (carve (slot2 bSl ![0, 0, 0] inb_S2x2048x1024_S1x2048x1024_0_0_0) c fullShare Finset.univ (Finset.subset_univ _) f) $$ H
  icases H with ⟨⟨%X, H0⟩, H⟩
  ihave H := (carve (slot2 bSl ![1, 0, 0] inb_S2x2048x1024_S1x2048x1024_1_0_0) c fullShare _ (sub_of (slot_sub bSl 1 0 (by decide) _ _)) f) $$ H
  icases H with ⟨⟨%Y, H1⟩, -⟩
  ihave H0 := (slot2_split c (.inr rfl) 0 _ inb_S2x2048x1024_S1x1024x1024_0_0_0 inb_S2x2048x1024_S1x1024x1024_0_1024_0 X) $$ H0
  ihave H1 := (slot2_split c (.inr rfl) 1 _ inb_S2x2048x1024_S1x1024x1024_1_0_0 inb_S2x2048x1024_S1x1024x1024_1_1024_0 Y) $$ H1
  icases H0 with ⟨H0, H0'⟩
  icases H1 with ⟨H1, H1'⟩
  isplitl [H0]; · iexists _; iexact H0
  isplitl [H0']; · iexists _; iexact H0'
  isplitl [H1]; · iexists _; iexact H1
  iexists _; iexact H1'

end Cert.KernelIdeal.Ring
-- ==== Proof.RunI.Phase.lean ====
/-
The phases of the body: the additions of one step, the normalisation of both chunks, and the whole chain.
-/
module

public import proofs.«01_k».proof.Proof.RunI.Steps
public import proofs.«01_k».proof.Proof.RunI.Out

@[expose] public section

set_option maxRecDepth 16384

noncomputable section

namespace Cert.KernelIdeal.Ring

open Cert.KernelIdeal Cert.KernelIdeal.Gen
open Idealize.ShloMosaic
open Idealize.ShloMosaic.TcCoe
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The device's partial sums, in two shares -/

/-- The partial sums, read for transfers and additions on the left. -/
abbrev parL (c : Dev nD) : sProp 𝕄 := (((c : Thread nD τ).loc main_arg0) ↦{fullShare.left} (m ((c : Thread nD τ).loc main_arg0)))
/-- The partial sums, read on the right. -/
abbrev parR (c : Dev nD) : sProp 𝕄 := (((c : Thread nD τ).loc main_arg0) ↦{fullShare.right} (m ((c : Thread nD τ).loc main_arg0)))
/-- The residual. -/
abbrev resA (c : Dev nD) : sProp 𝕄 := (((c : Thread nD τ).loc main_arg1) ↦{fullShare} (m ((c : Thread nD τ).loc main_arg1)))
/-- The scratch buffers. -/
abbrev scr (c : Dev nD) : sProp 𝕄 := iprop(some' c bW ∗ some' c bP ∗ some' c bR)

theorem off1_eq : ∀ c : Dev nD, k0_off1 c = oB c 0 false := by decide +kernel
theorem off2_eq : ∀ c : Dev nD, k0_off2 c = oB c 0 true := by decide +kernel

theorem same_parB (P : Vec F S1x8192x2048 .f32) (o o' : Fin 3 → ℕ) (h) (h') (e : o = o') :
    (parB bPar o h).view.read (Elt F) P = (parB bPar o' h').view.read (Elt F) P := by
  subst e; rfl

/-- The left half block sent first, lent. -/
theorem lendL (c : Dev nD) : parL m c ⊢ (iprop(sendPay m c 0 false ∗ (sendPay m c 0 false -∗ parL m c)) : sProp 𝕄) := by
  have hX : sendPay m c 0 false = owns (c : Thread nD τ) (parB bPar (k0_off1 c) (k0_off1_inb c)) fullShare.left
      ((parB bPar (k0_off1 c) (k0_off1_inb c)).view.read (Elt F) (pm m c)) := by
    rw [same_parB (pm m c) _ (oB c 0 false) _ (oB_inb c 0 false) (off1_eq c)]
    rfl
  rw [hX]
  exact lend (parB bPar (k0_off1 c) (k0_off1_inb c)) c fullShare.left (m ((c : Thread nD τ).loc main_arg0))

/-- The right half block sent first, lent. -/
theorem lendR (c : Dev nD) : parR m c ⊢ (iprop(sendPay m c 0 true ∗ (sendPay m c 0 true -∗ parR m c)) : sProp 𝕄) := by
  have hX : sendPay m c 0 true = owns (c : Thread nD τ) (parB bPar (k0_off2 c) (k0_off2_inb c)) fullShare.right
      ((parB bPar (k0_off2 c) (k0_off2_inb c)).view.read (Elt F) (pm m c)) := by
    rw [same_parB (pm m c) _ (oB c 0 true) _ (oB_inb c 0 true) (off2_eq c)]
    rfl
  rw [hX]
  exact lend (parB bPar (k0_off2 c) (k0_off2_inb c)) c fullShare.right (m ((c : Thread nD τ).loc main_arg0))

/-- A chunk of a half block, lent. -/
theorem lendCL (c : Dev nD) (o : Fin 3 → ℕ) (h) :
    parL m c ⊢ (iprop(owns (c : Thread nD τ) (parC bPar o h) fullShare.left ((parC bPar o h).view.read (Elt F) (pm m c))
      ∗ (owns (c : Thread nD τ) (parC bPar o h) fullShare.left ((parC bPar o h).view.read (Elt F) (pm m c)) -∗ parL m c)) : sProp 𝕄) :=
  lend (parC bPar o h) c fullShare.left (m ((c : Thread nD τ).loc main_arg0))
theorem lendCR (c : Dev nD) (o : Fin 3 → ℕ) (h) :
    parR m c ⊢ (iprop(owns (c : Thread nD τ) (parC bPar o h) fullShare.right ((parC bPar o h).view.read (Elt F) (pm m c))
      ∗ (owns (c : Thread nD τ) (parC bPar o h) fullShare.right ((parC bPar o h).view.read (Elt F) (pm m c)) -∗ parR m c)) : sProp 𝕄) :=
  lend (parC bPar o h) c fullShare.right (m ((c : Thread nD τ).loc main_arg0))
/-- A chunk of the device's own block, lent. -/
theorem lendF0 (c : Dev nD) :
    parL m c ⊢ (iprop(owns (c : Thread nD τ) (parF bPar (k0_off5 c 0#32) (k0_off5_inb c 0)) fullShare.left (ownP m c 0)
      ∗ (owns (c : Thread nD τ) (parF bPar (k0_off5 c 0#32) (k0_off5_inb c 0)) fullShare.left (ownP m c 0) -∗ parL m c)) : sProp 𝕄) :=
  lend (parF bPar (k0_off5 c 0#32) (k0_off5_inb c 0)) c fullShare.left (m ((c : Thread nD τ).loc main_arg0))
theorem lendF1 (c : Dev nD) :
    parL m c ⊢ (iprop(owns (c : Thread nD τ) (parF bPar (k0_off5 c 1024#32) (k0_off5_inb c 1)) fullShare.left (ownP m c 1)
      ∗ (owns (c : Thread nD τ) (parF bPar (k0_off5 c 1024#32) (k0_off5_inb c 1)) fullShare.left (ownP m c 1) -∗ parL m c)) : sProp 𝕄) :=
  lend (parF bPar (k0_off5 c 1024#32) (k0_off5_inb c 1)) c fullShare.left (m ((c : Thread nD τ).loc main_arg0))
/-- A chunk of the residual, lent. -/
theorem lendR0 (c : Dev nD) :
    resA m c ⊢ (iprop(owns (c : Thread nD τ) (rowC bRes (k0_off6 c 0#32) (k0_off6_inb c 0)) fullShare (ownR m c 0)
      ∗ (owns (c : Thread nD τ) (rowC bRes (k0_off6 c 0#32) (k0_off6_inb c 0)) fullShare (ownR m c 0) -∗ resA m c)) : sProp 𝕄) :=
  lend (rowC bRes (k0_off6 c 0#32) (k0_off6_inb c 0)) c fullShare (m ((c : Thread nD τ).loc main_arg1))
theorem lendR1 (c : Dev nD) :
    resA m c ⊢ (iprop(owns (c : Thread nD τ) (rowC bRes (k0_off6 c 1024#32) (k0_off6_inb c 1)) fullShare (ownR m c 1)
      ∗ (owns (c : Thread nD τ) (rowC bRes (k0_off6 c 1024#32) (k0_off6_inb c 1)) fullShare (ownR m c 1) -∗ resA m c)) : sProp 𝕄) :=
  lend (rowC bRes (k0_off6 c 1024#32) (k0_off6_inb c 1)) c fullShare (m ((c : Thread nD τ).loc main_arg1))

/-! ## The additions -/

/-- The chunk at offset `o'` is chunk `r` of the half block at `o`. -/
def ChunkOf (o' o : Fin 3 → ℕ) (r : Fin 2) : Prop := o' 0 = o 0 ∧ o' 1 = o 1 + 1024 * r.val ∧ o' 2 = o 2
instance (o' o : Fin 3 → ℕ) (r : Fin 2) : Decidable (ChunkOf o' o r) := by unfold ChunkOf; infer_instance

theorem off3_10 : ∀ c : Dev nD, ChunkOf (k0_off3 c 1#32 0#32) (oB c 1 false) 0 := by decide +kernel
theorem off3_11 : ∀ c : Dev nD, ChunkOf (k0_off3 c 1#32 1024#32) (oB c 1 false) 1 := by decide +kernel
theorem off3_20 : ∀ c : Dev nD, ChunkOf (k0_off3 c 2#32 0#32) (oB c 2 false) 0 := by decide +kernel
theorem off3_21 : ∀ c : Dev nD, ChunkOf (k0_off3 c 2#32 1024#32) (oB c 2 false) 1 := by decide +kernel
theorem off4_10 : ∀ c : Dev nD, ChunkOf (k0_off4 c 1#32 0#32) (oB c 1 true) 0 := by decide +kernel
theorem off4_11 : ∀ c : Dev nD, ChunkOf (k0_off4 c 1#32 1024#32) (oB c 1 true) 1 := by decide +kernel
theorem off4_20 : ∀ c : Dev nD, ChunkOf (k0_off4 c 2#32 0#32) (oB c 2 true) 0 := by decide +kernel
theorem off4_21 : ∀ c : Dev nD, ChunkOf (k0_off4 c 2#32 1024#32) (oB c 2 true) 1 := by decide +kernel

/-- One chunk of both halves is added. -/
theorem wp_chunk (c : Dev nD) (s : Fin 3) (r : Fin 2) (o3 o4 : Fin 3 → ℕ) (h3) (h4) (e3 : ChunkOf o3 (oB c s false) r)
    (e4 : ChunkOf o4 (oB c s true) r) (aL aR oL oR : HB S1024x1024) (X Y : Vec F S2048x1024 .f32) (k : ℕ) (kk : PR F)
    (Q : PUnit → sProp 𝕄) :
    iprop(levAts L lv ∗ owesE c (debt c k) ∗ cz4 c ∗ scr c ∗ parL m c ∗ parR m c
        ∗ owns (c : Thread nD τ) aL fullShare (rows X r) ∗ owns (c : Thread nD τ) aR fullShare (rows Y r) ∗ some' c oL ∗ some' c oR)
      ⊢ iprop(((owesE c (debt c k) ∗ cz4 c ∗ scr c ∗ parL m c ∗ parR m c
        ∗ owns (c : Thread nD τ) oL fullShare (rows (addf (X : FVec F S2048x1024 .f32) (part m c s false)) r)
        ∗ owns (c : Thread nD τ) oR fullShare (rows (addf (Y : FVec F S2048x1024 .f32) (part m c s true)) r)) -∗ WP c kk Q)
        -∗ WP c (acc bW bP bR aL aR (parC bPar o3 h3) (parC bPar o4 h4) oL oR kk) Q) := by
  iintro ⟨#Hlev, HO, Hz, Hs, HL, HR, HaL, HaR, HoL, HoR⟩ Hk
  have r3 := rows_part (F := F) (pm m c) (oB c s false) o3 (oB_inb c s false) h3 r e3.1 e3.2.1 e3.2.2
  have r4 := rows_part (F := F) (pm m c) (oB c s true) o4 (oB_inb c s true) h4 r e4.1 e4.2.1 e4.2.2
  ihave HL := (lendCL m c o3 h3) $$ HL
  icases HL with ⟨HpL, HbL⟩
  ihave HR := (lendCR m c o4 h4) $$ HR
  icases HR with ⟨HpR, HbR⟩
  iapply (wp_acc c aL aR (parC bPar o3 h3) (parC bPar o4 h4) oL oR fullShare fullShare fullShare.left fullShare.right
    (rows X r) (rows Y r) ((parC bPar o3 h3).view.read (Elt F) (pm m c)) ((parC bPar o4 h4).view.read (Elt F) (pm m c)) k)
    $$ [HO Hz Hs HaL HaR HpL HpR HoL HoR]
  · isplitr; · iexact Hlev
    isplitl [HO]; · iexact HO
    isplitl [Hz]; · iexact Hz
    isplitl [Hs]; · iexact Hs
    isplitl [HaL HaR HpL HpR]
    · isplitl [HaL]; · iexact HaL
      isplitl [HaR]; · iexact HaR
      isplitl [HpL]; · iexact HpL
      iexact HpR
    isplitl [HoL] <;> iassumption
  iintro ⟨HO, Hz, Hs, ⟨HpL, HpR⟩, HoL, HoR⟩
  ihave HL := HbL $$ HpL
  ihave HR := HbR $$ HpR
  rw [r3, r4]
  iapply Hk
  isplitl [HO]; · iexact HO
  isplitl [Hz]; · iexact Hz
  isplitl [Hs]; · iexact Hs
  isplitl [HL]; · iexact HL
  isplitl [HR]; · iexact HR
  isplitl [HoL]; · iexact HoL
  iexact HoR

/-- The additions between the first and the second hop. -/
theorem wp_add1 (c : Dev nD) (k : ℕ) (kk : PR F) (Q : PUnit → sProp 𝕄) :
    iprop(levAts L lv ∗ owesE c (debt c k) ∗ cz4 c ∗ scr c ∗ parL m c ∗ parR m c ∗ recvPay m c 0 false ∗ recvPay m c 0 true
        ∗ (some' c (chunk2 bSr ![0, 0, 0] inb_S2x2048x1024_S1x1024x1024_0_0_0) ∗ some' c (chunk2 bSr ![0, 1024, 0] inb_S2x2048x1024_S1x1024x1024_0_1024_0))
        ∗ (some' c (chunk2 bSl ![0, 0, 0] inb_S2x2048x1024_S1x1024x1024_0_0_0) ∗ some' c (chunk2 bSl ![0, 1024, 0] inb_S2x2048x1024_S1x1024x1024_0_1024_0)))
      ⊢ iprop(((owesE c (debt c k) ∗ cz4 c ∗ scr c ∗ parL m c ∗ parR m c ∗ sendPay m c 1 false ∗ sendPay m c 1 true) -∗ WP c kk Q)
        -∗ WP c (acc bW bP bR (chunk3 bRr ![0, 0, 0] inb_S3x2048x1024_S1x1024x1024_0_0_0)
    (chunk3 bRl ![0, 0, 0] inb_S3x2048x1024_S1x1024x1024_0_0_0)
    (parC bPar (k0_off3 c 1#32 0#32) (k0_off3_inb c 0 0)) (parC bPar (k0_off4 c 1#32 0#32) (k0_off4_inb c 0 0))
    (chunk2 bSr ![0, 0, 0] inb_S2x2048x1024_S1x1024x1024_0_0_0)
    (chunk2 bSl ![0, 0, 0] inb_S2x2048x1024_S1x1024x1024_0_0_0) <|
  acc bW bP bR (chunk3 bRr ![0, 1024, 0] inb_S3x2048x1024_S1x1024x1024_0_1024_0)
    (chunk3 bRl ![0, 1024, 0] inb_S3x2048x1024_S1x1024x1024_0_1024_0)
    (parC bPar (k0_off3 c 1#32 1024#32) (k0_off3_inb c 0 1)) (parC bPar (k0_off4 c 1#32 1024#32) (k0_off4_inb c 0 1))
    (chunk2 bSr ![0, 1024, 0] inb_S2x2048x1024_S1x1024x1024_0_1024_0)
    (chunk2 bSl ![0, 1024, 0] inb_S2x2048x1024_S1x1024x1024_0_1024_0) kk) Q) := by
  iintro ⟨#Hlev, HO, Hz, Hs, HL, HR, HvR, HvL, ⟨Hr0, Hr1⟩, Hl0, Hl1⟩ Hk
  ihave HvR := (show (recvPay m c 0 false : sProp 𝕄) ⊢ _ from slot3_split c (.inl rfl) 0 inb_S3x2048x1024_S1x2048x1024_0_0_0
    inb_S3x2048x1024_S1x1024x1024_0_0_0 inb_S3x2048x1024_S1x1024x1024_0_1024_0 (sum0 m (prv c) false)) $$ HvR
  icases HvR with ⟨HvR0, HvR1⟩
  ihave HvL := (show (recvPay m c 0 true : sProp 𝕄) ⊢ _ from slot3_split c (.inr rfl) 0 inb_S3x2048x1024_S1x2048x1024_0_0_0
    inb_S3x2048x1024_S1x1024x1024_0_0_0 inb_S3x2048x1024_S1x1024x1024_0_1024_0 (sum0 m (nxt c) true)) $$ HvL
  icases HvL with ⟨HvL0, HvL1⟩
  iapply (wp_chunk m c 1 0 _ _ (k0_off3_inb c 0 0) (k0_off4_inb c 0 0) (off3_10 c) (off4_10 c) _ _ _ _ (sum0 m (prv c) false) (sum0 m (nxt c) true) k)
    $$ [HO Hz Hs HL HR HvR0 HvL0 Hr0 Hl0]
  · isplitr; · iexact Hlev
    isplitl [HO]; · iexact HO
    isplitl [Hz]; · iexact Hz
    isplitl [Hs]; · iexact Hs
    isplitl [HL]; · iexact HL
    isplitl [HR]; · iexact HR
    isplitl [HvR0]; · iexact HvR0
    isplitl [HvL0]; · iexact HvL0
    isplitl [Hr0]; · iexact Hr0
    iexact Hl0
  iintro ⟨HO, Hz, Hs, HL, HR, Hr0, Hl0⟩
  iapply (wp_chunk m c 1 1 _ _ (k0_off3_inb c 0 1) (k0_off4_inb c 0 1) (off3_11 c) (off4_11 c) _ _ _ _ (sum0 m (prv c) false) (sum0 m (nxt c) true) k)
    $$ [HO Hz Hs HL HR HvR1 HvL1 Hr1 Hl1]
  · isplitr; · iexact Hlev
    isplitl [HO]; · iexact HO
    isplitl [Hz]; · iexact Hz
    isplitl [Hs]; · iexact Hs
    isplitl [HL]; · iexact HL
    isplitl [HR]; · iexact HR
    isplitl [HvR1]; · iexact HvR1
    isplitl [HvL1]; · iexact HvL1
    isplitl [Hr1]; · iexact Hr1
    iexact Hl1
  iintro ⟨HO, Hz, Hs, HL, HR, Hr1, Hl1⟩
  iapply Hk
  isplitl [HO]; · iexact HO
  isplitl [Hz]; · iexact Hz
  isplitl [Hs]; · iexact Hs
  isplitl [HL]; · iexact HL
  isplitl [HR]; · iexact HR
  isplitl [Hr0 Hr1]
  · iapply (show iprop(owns (c : Thread nD τ) (chunk2 bSr ![0, 0, 0] inb_S2x2048x1024_S1x1024x1024_0_0_0) fullShare (rows (sum1 m c false) 0)
        ∗ owns (c : Thread nD τ) (chunk2 bSr ![0, 1024, 0] inb_S2x2048x1024_S1x1024x1024_0_1024_0) fullShare (rows (sum1 m c false) 1))
      ⊢ (sendPay m c 1 false : sProp 𝕄) from slot2_join c (.inl rfl) 0 inb_S2x2048x1024_S1x2048x1024_0_0_0 _ _ (sum1 m c false))
    isplitl [Hr0]; · iexact Hr0
    iexact Hr1
  · iapply (show iprop(owns (c : Thread nD τ) (chunk2 bSl ![0, 0, 0] inb_S2x2048x1024_S1x1024x1024_0_0_0) fullShare (rows (sum1 m c true) 0)
        ∗ owns (c : Thread nD τ) (chunk2 bSl ![0, 1024, 0] inb_S2x2048x1024_S1x1024x1024_0_1024_0) fullShare (rows (sum1 m c true) 1))
      ⊢ (sendPay m c 1 true : sProp 𝕄) from slot2_join c (.inr rfl) 0 inb_S2x2048x1024_S1x2048x1024_0_0_0 _ _ (sum1 m c true))
    isplitl [Hl0]; · iexact Hl0
    iexact Hl1

/-- The additions between the second and the third hop. -/
theorem wp_add2 (c : Dev nD) (k : ℕ) (kk : PR F) (Q : PUnit → sProp 𝕄) :
    iprop(levAts L lv ∗ owesE c (debt c k) ∗ cz4 c ∗ scr c ∗ parL m c ∗ parR m c ∗ recvPay m c 1 false ∗ recvPay m c 1 true
        ∗ (some' c (chunk2 bSr ![1, 0, 0] inb_S2x2048x1024_S1x1024x1024_1_0_0) ∗ some' c (chunk2 bSr ![1, 1024, 0] inb_S2x2048x1024_S1x1024x1024_1_1024_0))
        ∗ (some' c (chunk2 bSl ![1, 0, 0] inb_S2x2048x1024_S1x1024x1024_1_0_0) ∗ some' c (chunk2 bSl ![1, 1024, 0] inb_S2x2048x1024_S1x1024x1024_1_1024_0)))
      ⊢ iprop(((owesE c (debt c k) ∗ cz4 c ∗ scr c ∗ parL m c ∗ parR m c ∗ sendPay m c 2 false ∗ sendPay m c 2 true) -∗ WP c kk Q)
        -∗ WP c (acc bW bP bR (chunk3 bRr ![1, 0, 0] inb_S3x2048x1024_S1x1024x1024_1_0_0)
    (chunk3 bRl ![1, 0, 0] inb_S3x2048x1024_S1x1024x1024_1_0_0)
    (parC bPar (k0_off3 c 2#32 0#32) (k0_off3_inb c 1 0)) (parC bPar (k0_off4 c 2#32 0#32) (k0_off4_inb c 1 0))
    (chunk2 bSr ![1, 0, 0] inb_S2x2048x1024_S1x1024x1024_1_0_0)
    (chunk2 bSl ![1, 0, 0] inb_S2x2048x1024_S1x1024x1024_1_0_0) <|
  acc bW bP bR (chunk3 bRr ![1, 1024, 0] inb_S3x2048x1024_S1x1024x1024_1_1024_0)
    (chunk3 bRl ![1, 1024, 0] inb_S3x2048x1024_S1x1024x1024_1_1024_0)
    (parC bPar (k0_off3 c 2#32 1024#32) (k0_off3_inb c 1 1)) (parC bPar (k0_off4 c 2#32 1024#32) (k0_off4_inb c 1 1))
    (chunk2 bSr ![1, 1024, 0] inb_S2x2048x1024_S1x1024x1024_1_1024_0)
    (chunk2 bSl ![1, 1024, 0] inb_S2x2048x1024_S1x1024x1024_1_1024_0) kk) Q) := by
  iintro ⟨#Hlev, HO, Hz, Hs, HL, HR, HvR, HvL, ⟨Hr0, Hr1⟩, Hl0, Hl1⟩ Hk
  ihave HvR := (show (recvPay m c 1 false : sProp 𝕄) ⊢ _ from slot3_split c (.inl rfl) 1 inb_S3x2048x1024_S1x2048x1024_1_0_0
    inb_S3x2048x1024_S1x1024x1024_1_0_0 inb_S3x2048x1024_S1x1024x1024_1_1024_0 (sum1 m (prv c) false)) $$ HvR
  icases HvR with ⟨HvR0, HvR1⟩
  ihave HvL := (show (recvPay m c 1 true : sProp 𝕄) ⊢ _ from slot3_split c (.inr rfl) 1 inb_S3x2048x1024_S1x2048x1024_1_0_0
    inb_S3x2048x1024_S1x1024x1024_1_0_0 inb_S3x2048x1024_S1x1024x1024_1_1024_0 (sum1 m (nxt c) true)) $$ HvL
  icases HvL with ⟨HvL0, HvL1⟩
  iapply (wp_chunk m c 2 0 _ _ (k0_off3_inb c 1 0) (k0_off4_inb c 1 0) (off3_20 c) (off4_20 c) _ _ _ _ (sum1 m (prv c) false) (sum1 m (nxt c) true) k)
    $$ [HO Hz Hs HL HR HvR0 HvL0 Hr0 Hl0]
  · isplitr; · iexact Hlev
    isplitl [HO]; · iexact HO
    isplitl [Hz]; · iexact Hz
    isplitl [Hs]; · iexact Hs
    isplitl [HL]; · iexact HL
    isplitl [HR]; · iexact HR
    isplitl [HvR0]; · iexact HvR0
    isplitl [HvL0]; · iexact HvL0
    isplitl [Hr0]; · iexact Hr0
    iexact Hl0
  iintro ⟨HO, Hz, Hs, HL, HR, Hr0, Hl0⟩
  iapply (wp_chunk m c 2 1 _ _ (k0_off3_inb c 1 1) (k0_off4_inb c 1 1) (off3_21 c) (off4_21 c) _ _ _ _ (sum1 m (prv c) false) (sum1 m (nxt c) true) k)
    $$ [HO Hz Hs HL HR HvR1 HvL1 Hr1 Hl1]
  · isplitr; · iexact Hlev
    isplitl [HO]; · iexact HO
    isplitl [Hz]; · iexact Hz
    isplitl [Hs]; · iexact Hs
    isplitl [HL]; · iexact HL
    isplitl [HR]; · iexact HR
    isplitl [HvR1]; · iexact HvR1
    isplitl [HvL1]; · iexact HvL1
    isplitl [Hr1]; · iexact Hr1
    iexact Hl1
  iintro ⟨HO, Hz, Hs, HL, HR, Hr1, Hl1⟩
  iapply Hk
  isplitl [HO]; · iexact HO
  isplitl [Hz]; · iexact Hz
  isplitl [Hs]; · iexact Hs
  isplitl [HL]; · iexact HL
  isplitl [HR]; · iexact HR
  isplitl [Hr0 Hr1]
  · iapply (show iprop(owns (c : Thread nD τ) (chunk2 bSr ![1, 0, 0] inb_S2x2048x1024_S1x1024x1024_1_0_0) fullShare (rows (sum2 m c false) 0)
        ∗ owns (c : Thread nD τ) (chunk2 bSr ![1, 1024, 0] inb_S2x2048x1024_S1x1024x1024_1_1024_0) fullShare (rows (sum2 m c false) 1))
      ⊢ (sendPay m c 2 false : sProp 𝕄) from slot2_join c (.inl rfl) 1 inb_S2x2048x1024_S1x2048x1024_1_0_0 _ _ (sum2 m c false))
    isplitl [Hr0]; · iexact Hr0
    iexact Hr1
  · iapply (show iprop(owns (c : Thread nD τ) (chunk2 bSl ![1, 0, 0] inb_S2x2048x1024_S1x1024x1024_1_0_0) fullShare (rows (sum2 m c true) 0)
        ∗ owns (c : Thread nD τ) (chunk2 bSl ![1, 1024, 0] inb_S2x2048x1024_S1x1024x1024_1_1024_0) fullShare (rows (sum2 m c true) 1))
      ⊢ (sendPay m c 2 true : sProp 𝕄) from slot2_join c (.inr rfl) 1 inb_S2x2048x1024_S1x2048x1024_1_0_0 _ _ (sum2 m c true))
    isplitl [Hl0]; · iexact Hl0
    iexact Hl1

/-! ## The normalisation -/

/-- Both chunks of the device's block are normalised. -/
theorem wp_fin (c : Dev nD) (k : ℕ) (kk : PR F) (Q : PUnit → sProp 𝕄) :
    iprop(levAts L lv ∗ owesE c (debt c k) ∗ cz4 c ∗ scr c ∗ parL m c ∗ resA m c ∗ recvPay m c 2 false ∗ recvPay m c 2 true
        ∗ owns (c : Thread nD τ) bG fullShare (gm m c)
        ∗ some' c (rowC bOut (k0_off6 c 0#32) (k0_off6_inb c 0)) ∗ some' c (rowC bOut (k0_off6 c 1024#32) (k0_off6_inb c 1)))
      ⊢ iprop(((owesE c (debt c k) ∗ cz4 c ∗ scr c ∗ parL m c ∗ resA m c ∗ owns (c : Thread nD τ) bG fullShare (gm m c)
          ∗ sendPay m c 3 false ∗ sendPay m c 3 true) -∗ WP c kk Q)
        -∗ WP c (norm bW bP bR bG (chunk3 bRr ![2, 0, 0] inb_S3x2048x1024_S1x1024x1024_2_0_0)
    (chunk3 bRl ![2, 0, 0] inb_S3x2048x1024_S1x1024x1024_2_0_0)
    (parF bPar (k0_off5 c 0#32) (k0_off5_inb c 0)) (rowC bRes (k0_off6 c 0#32) (k0_off6_inb c 0))
    (rowC bOut (k0_off6 c 0#32) (k0_off6_inb c 0)) <|
  norm bW bP bR bG (chunk3 bRr ![2, 1024, 0] inb_S3x2048x1024_S1x1024x1024_2_1024_0)
    (chunk3 bRl ![2, 1024, 0] inb_S3x2048x1024_S1x1024x1024_2_1024_0)
    (parF bPar (k0_off5 c 1024#32) (k0_off5_inb c 1)) (rowC bRes (k0_off6 c 1024#32) (k0_off6_inb c 1))
    (rowC bOut (k0_off6 c 1024#32) (k0_off6_inb c 1)) kk) Q) := by
  iintro ⟨#Hlev, HO, Hz, Hs, HL, HR, HvR, HvL, Hg, Ho0, Ho1⟩ Hk
  ihave HvR := (show (recvPay m c 2 false : sProp 𝕄) ⊢ _ from slot3_split c (.inl rfl) 2 inb_S3x2048x1024_S1x2048x1024_2_0_0
    inb_S3x2048x1024_S1x1024x1024_2_0_0 inb_S3x2048x1024_S1x1024x1024_2_1024_0 (sum2 m (prv c) false)) $$ HvR
  icases HvR with ⟨HvR0, HvR1⟩
  ihave HvL := (show (recvPay m c 2 true : sProp 𝕄) ⊢ _ from slot3_split c (.inr rfl) 2 inb_S3x2048x1024_S1x2048x1024_2_0_0
    inb_S3x2048x1024_S1x1024x1024_2_0_0 inb_S3x2048x1024_S1x1024x1024_2_1024_0 (sum2 m (nxt c) true)) $$ HvL
  icases HvL with ⟨HvL0, HvL1⟩
  ihave HL := (lendF0 m c) $$ HL
  icases HL with ⟨Hp, HbL⟩
  ihave HR := (lendR0 m c) $$ HR
  icases HR with ⟨Hr, HbR⟩
  iapply (wp_norm c _ _ _ _ (rowC bOut (k0_off6 c 0#32) (k0_off6_inb c 0)) fullShare fullShare fullShare.left fullShare
    (rows (sum2 m (prv c) false) 0) (rows (sum2 m (nxt c) true) 0) (ownP m c 0) (ownR m c 0) (gm m c) k)
    $$ [HO Hz Hs HvR0 HvL0 Hp Hr Hg Ho0]
  · isplitr; · iexact Hlev
    isplitl [HO]; · iexact HO
    isplitl [Hz]; · iexact Hz
    isplitl [Hs]; · iexact Hs
    isplitl [HvR0 HvL0 Hp Hr]
    · isplitl [HvR0]; · iexact HvR0
      isplitl [HvL0]; · iexact HvL0
      isplitl [Hp]; · iexact Hp
      iexact Hr
    isplitl [Hg]; · iexact Hg
    iexact Ho0
  iintro ⟨HO, Hz, Hs, ⟨Hp, Hr⟩, Hg, Ho0⟩
  ihave HL := HbL $$ Hp
  ihave HR := HbR $$ Hr
  ihave HL := (lendF1 m c) $$ HL
  icases HL with ⟨Hp, HbL⟩
  ihave HR := (lendR1 m c) $$ HR
  icases HR with ⟨Hr, HbR⟩
  iapply (wp_norm c _ _ _ _ (rowC bOut (k0_off6 c 1024#32) (k0_off6_inb c 1)) fullShare fullShare fullShare.left fullShare
    (rows (sum2 m (prv c) false) 1) (rows (sum2 m (nxt c) true) 1) (ownP m c 1) (ownR m c 1) (gm m c) k)
    $$ [HO Hz Hs HvR1 HvL1 Hp Hr Hg Ho1]
  · isplitr; · iexact Hlev
    isplitl [HO]; · iexact HO
    isplitl [Hz]; · iexact Hz
    isplitl [Hs]; · iexact Hs
    isplitl [HvR1 HvL1 Hp Hr]
    · isplitl [HvR1]; · iexact HvR1
      isplitl [HvL1]; · iexact HvL1
      isplitl [Hp]; · iexact Hp
      iexact Hr
    isplitl [Hg]; · iexact Hg
    iexact Ho1
  iintro ⟨HO, Hz, Hs, ⟨Hp, Hr⟩, Hg, Ho1⟩
  ihave HL := HbL $$ Hp
  ihave HR := HbR $$ Hr
  have e0 : normOf (glue (rows (sum2 m (prv c) false) 0) (rows (sum2 m (nxt c) true) 0)) (ownP m c 0) (ownR m c 0) (gm m c)
      = (rowC bOut (k0_off6 c 0#32) (k0_off6_inb c 0)).view.read (Elt F) (outF m) :=
    (nchunk_read m c 0 _ (k0_off6_inb c 0) (off6_0 c)).symm
  have e1 : normOf (glue (rows (sum2 m (prv c) false) 1) (rows (sum2 m (nxt c) true) 1)) (ownP m c 1) (ownR m c 1) (gm m c)
      = (rowC bOut (k0_off6 c 1024#32) (k0_off6_inb c 1)).view.read (Elt F) (outF m) :=
    (nchunk_read m c 1 _ (k0_off6_inb c 1) (off6_1 c)).symm
  rw [e0, e1]
  ihave Ho := ((own_full c (k0_off6_inb c 0) (k0_off6_inb c 1) (outF m)).trans (own_send m c)) $$ [Ho0 Ho1]
  · isplitl [Ho0]; · iexact Ho0
    iexact Ho1
  icases Ho with ⟨Ho0, Ho1⟩
  iapply Hk
  isplitl [HO]; · iexact HO
  isplitl [Hz]; · iexact Hz
  isplitl [Hs]; · iexact Hs
  isplitl [HL]; · iexact HL
  isplitl [HR]; · iexact HR
  isplitl [Hg]; · iexact Hg
  isplitl [Ho0]; · iexact Ho0
  iexact Ho1

end Cert.KernelIdeal.Ring
-- ==== Proof.RunI.Body.lean ====
/-
The whole body of one device: from what the launch gives it to the finished result.
-/
module

public import proofs.«01_k».proof.Proof.RunI.Phase

@[expose] public section

set_option maxRecDepth 16384

noncomputable section

namespace Cert.KernelIdeal.Ring

open Cert.KernelIdeal Cert.KernelIdeal.Gen
open Idealize.ShloMosaic
open Idealize.ShloMosaic.TcCoe
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × CK → ℕ)

/-- What all hops use. -/
def hopsG (c : Dev nD) : sProp 𝕄 := bigSep Finset.univ fun h : Fin 6 => iprop(hopG c h false ∗ hopG c h true)
/-- All transfers' semaphores at zero. -/
def hopsZ (c : Dev nD) : sProp 𝕄 := bigSep Finset.univ fun h : Fin 6 => iprop(hopZ c h false ∗ hopZ c h true)

theorem bigSep_fin6 (Φ : Fin 6 → sProp 𝕄) :
    bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- What the left neighbour writes here. -/
theorem give_prv (c : Dev nD) (f1 : Buf (Elt F) ((c : Thread nD τ).loc main_v1_1)) (f : Vec F S8192x2048 .f32) :
    iprop((((c : Thread nD τ).loc main_v1_1) ↦{fullShare} f1) ∗ outAt c (outK (blk c 1 false, false)) f
      ∗ outAt c (outK (blk c 2 false, false)) f ∗ outAt c (outK (blk c 3 false, false)) f) ⊢ (barPay (prv c) false : sProp 𝕄) := by
  unfold barPay
  rw [bigSep_fin6, nb_false, nxt_prv]
  iintro ⟨H, H1, H2, H3⟩
  ihave H := (recv_slotsR c f1) $$ H
  icases H with ⟨G0, G1, G2⟩
  isplitl [G0]; · iexact G0
  isplitl [G1]; · iexact G1
  isplitl [G2]; · iexact G2
  isplitl [H1]
  · iapply (show outAt c (outK (blk c 1 false, false)) f ⊢ hole c (tgtM (prv c) 3 false) from
      hole_out c _ (k0_off7_inb (prv c) 0) _ ((off7_0 (prv c)).trans (by rw [(blk_prv c).1])) f)
    iexact H1
  isplitl [H2]
  · iapply (show outAt c (outK (blk c 2 false, false)) f ⊢ hole c (tgtM (prv c) 4 false) from
      hole_out c _ (k0_off7_inb (prv c) 1) _ ((off7_1 (prv c)).trans (by rw [(blk_prv c).2.1])) f)
    iexact H2
  · iapply (show outAt c (outK (blk c 3 false, false)) f ⊢ hole c (tgtM (prv c) 5 false) from
      hole_out c _ (k0_off7_inb (prv c) 2) _ ((off7_2 (prv c)).trans (by rw [(blk_prv c).2.2])) f)
    iexact H3

/-- What the right neighbour writes here. -/
theorem give_nxt (c : Dev nD) (f1 : Buf (Elt F) ((c : Thread nD τ).loc main_v1_2)) (f : Vec F S8192x2048 .f32) :
    iprop((((c : Thread nD τ).loc main_v1_2) ↦{fullShare} f1) ∗ outAt c (outK (blk c 1 true, true)) f
      ∗ outAt c (outK (blk c 2 true, true)) f ∗ outAt c (outK (blk c 3 true, true)) f) ⊢ (barPay (nxt c) true : sProp 𝕄) := by
  unfold barPay
  rw [bigSep_fin6, nb_true, prv_nxt]
  iintro ⟨H, H1, H2, H3⟩
  ihave H := (recv_slotsL c f1) $$ H
  icases H with ⟨G0, G1, G2⟩
  isplitl [G0]; · iexact G0
  isplitl [G1]; · iexact G1
  isplitl [G2]; · iexact G2
  isplitl [H1]
  · iapply (show outAt c (outK (blk c 1 true, true)) f ⊢ hole c (tgtM (nxt c) 3 true) from
      hole_out c _ (k0_off8_inb (nxt c) 0) _ ((off8_0 (nxt c)).trans (by rw [(blk_nxt c).1])) f)
    iexact H1
  isplitl [H2]
  · iapply (show outAt c (outK (blk c 2 true, true)) f ⊢ hole c (tgtM (nxt c) 4 true) from
      hole_out c _ (k0_off8_inb (nxt c) 1) _ ((off8_1 (nxt c)).trans (by rw [(blk_nxt c).2.1])) f)
    iexact H2
  · iapply (show outAt c (outK (blk c 3 true, true)) f ⊢ hole c (tgtM (nxt c) 5 true) from
      hole_out c _ (k0_off8_inb (nxt c) 2) _ ((off8_2 (nxt c)).trans (by rw [(blk_nxt c).2.2])) f)
    iexact H3

/-! ## The devices the transfers go to -/

theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = nxt c := by decide +kernel
theorem dev4_eq : ∀ c : Dev nD, (⟨k0_dev4 c, k0_dev4_lt c⟩ : Dev nD) = prv c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = prv c := by decide +kernel
theorem dev7_eq : ∀ c : Dev nD, (⟨k0_dev7 c, k0_dev7_lt c⟩ : Dev nD) = nxt c := by decide +kernel
theorem dev8_eq : ∀ c : Dev nD, (⟨k0_dev8 c, k0_dev8_lt c⟩ : Dev nD) = prv c := by decide +kernel
theorem dev9_eq : ∀ c : Dev nD, (⟨k0_dev9 c, k0_dev9_lt c⟩ : Dev nD) = nxt c := by decide +kernel
theorem dev10_eq : ∀ c : Dev nD, (⟨k0_dev10 c, k0_dev10_lt c⟩ : Dev nD) = prv c := by decide +kernel
theorem dev11_eq : ∀ c : Dev nD, (⟨k0_dev11 c, k0_dev11_lt c⟩ : Dev nD) = nxt c := by decide +kernel
theorem dev12_eq : ∀ c : Dev nD, (⟨k0_dev12 c, k0_dev12_lt c⟩ : Dev nD) = prv c := by decide +kernel
theorem dev13_eq : ∀ c : Dev nD, (⟨k0_dev13 c, k0_dev13_lt c⟩ : Dev nD) = nxt c := by decide +kernel
theorem dev14_eq : ∀ c : Dev nD, (⟨k0_dev14 c, k0_dev14_lt c⟩ : Dev nD) = prv c := by decide +kernel

/-- The transfers of hop `h` on device `c`, then `kk`. -/
abbrev hopAt (c dR dL : Dev nD) (h : Fin 6) (kk : PR F) : PR F :=
  hop dR dL (srcM c h false) (tgtM c h false) (srcM c h true) (tgtM c h true) (tgt_scratch c h false) (tgt_scratch c h true)
    (sendS h false) (recvS h false) (sendS h true) (recvS h true) kk

theorem tail3_eq (c : Dev nD) : tail3 (F := F) c
    = hopAt c ⟨k0_dev9 c, k0_dev9_lt c⟩ ⟨k0_dev10 c, k0_dev10_lt c⟩ 3
      (hopAt c ⟨k0_dev11 c, k0_dev11_lt c⟩ ⟨k0_dev12 c, k0_dev12_lt c⟩ 4
        (hopAt c ⟨k0_dev13 c, k0_dev13_lt c⟩ ⟨k0_dev14 c, k0_dev14_lt c⟩ 5 (.ret ⟨⟩))) := rfl

theorem tail1_eq (c : Dev nD) : tail1 (F := F) c bG
    = (acc bW bP bR (chunk3 bRr ![0, 0, 0] inb_S3x2048x1024_S1x1024x1024_0_0_0)
    (chunk3 bRl ![0, 0, 0] inb_S3x2048x1024_S1x1024x1024_0_0_0)
    (parC bPar (k0_off3 c 1#32 0#32) (k0_off3_inb c 0 0)) (parC bPar (k0_off4 c 1#32 0#32) (k0_off4_inb c 0 0))
    (chunk2 bSr ![0, 0, 0] inb_S2x2048x1024_S1x1024x1024_0_0_0)
    (chunk2 bSl ![0, 0, 0] inb_S2x2048x1024_S1x1024x1024_0_0_0) <|
  acc bW bP bR (chunk3 bRr ![0, 1024, 0] inb_S3x2048x1024_S1x1024x1024_0_1024_0)
    (chunk3 bRl ![0, 1024, 0] inb_S3x2048x1024_S1x1024x1024_0_1024_0)
    (parC bPar (k0_off3 c 1#32 1024#32) (k0_off3_inb c 0 1)) (parC bPar (k0_off4 c 1#32 1024#32) (k0_off4_inb c 0 1))
    (chunk2 bSr ![0, 1024, 0] inb_S2x2048x1024_S1x1024x1024_0_1024_0)
    (chunk2 bSl ![0, 1024, 0] inb_S2x2048x1024_S1x1024x1024_0_1024_0) <|
  hopAt c ⟨k0_dev5 c, k0_dev5_lt c⟩ ⟨k0_dev6 c, k0_dev6_lt c⟩ 1 <|
  acc bW bP bR (chunk3 bRr ![1, 0, 0] inb_S3x2048x1024_S1x1024x1024_1_0_0)
    (chunk3 bRl ![1, 0, 0] inb_S3x2048x1024_S1x1024x1024_1_0_0)
    (parC bPar (k0_off3 c 2#32 0#32) (k0_off3_inb c 1 0)) (parC bPar (k0_off4 c 2#32 0#32) (k0_off4_inb c 1 0))
    (chunk2 bSr ![1, 0, 0] inb_S2x2048x1024_S1x1024x1024_1_0_0)
    (chunk2 bSl ![1, 0, 0] inb_S2x2048x1024_S1x1024x1024_1_0_0) <|
  acc bW bP bR (chunk3 bRr ![1, 1024, 0] inb_S3x2048x1024_S1x1024x1024_1_1024_0)
    (chunk3 bRl ![1, 1024, 0] inb_S3x2048x1024_S1x1024x1024_1_1024_0)
    (parC bPar (k0_off3 c 2#32 1024#32) (k0_off3_inb c 1 1)) (parC bPar (k0_off4 c 2#32 1024#32) (k0_off4_inb c 1 1))
    (chunk2 bSr ![1, 1024, 0] inb_S2x2048x1024_S1x1024x1024_1_1024_0)
    (chunk2 bSl ![1, 1024, 0] inb_S2x2048x1024_S1x1024x1024_1_1024_0) <|
  hopAt c ⟨k0_dev7 c, k0_dev7_lt c⟩ ⟨k0_dev8 c, k0_dev8_lt c⟩ 2 <| tail2 c bG) := rfl

theorem tail0_eq (c : Dev nD) : tail0 (F := F) c bG
    = shake ⟨k0_dev1 c, k0_dev1_lt c⟩ ⟨k0_dev2 c, k0_dev2_lt c⟩
      (hopAt c ⟨k0_dev3 c, k0_dev3_lt c⟩ ⟨k0_dev4 c, k0_dev4_lt c⟩ 0 (tail1 c bG)) := rfl

/-- What the body starts from. -/
def bodyIn (c : Dev nD) (f0 : Vec F S8192x2048 .f32) (f1 : Buf (Elt F) ((c : Thread nD τ).loc main_v1_1))
    (f2 : Buf (Elt F) ((c : Thread nD τ).loc main_v1_2)) (f3 : Buf (Elt F) ((c : Thread nD τ).loc main_v1_3))
    (f4 : Buf (Elt F) ((c : Thread nD τ).loc main_v1_4)) : sProp 𝕄 :=
  iprop(records m K ∗ levAts L lv ∗ owesE c (O₀ c) ∗ shakeG c ∗ hopsG c ∗ cz4 c ∗ scr c
    ∗ (((c : Thread nD τ).loc main_arg0) ↦{fullShare} (m ((c : Thread nD τ).loc main_arg0))) ∗ resA m c
    ∗ outAt c Finset.univ f0 ∗ (((c : Thread nD τ).loc main_v1_1) ↦{fullShare} f1) ∗ (((c : Thread nD τ).loc main_v1_2) ↦{fullShare} f2)
    ∗ (((c : Thread nD τ).loc main_v1_3) ↦{fullShare} f3) ∗ (((c : Thread nD τ).loc main_v1_4) ↦{fullShare} f4)
    ∗ owns (c : Thread nD τ) bG fullShare (gm m c))

/-- What the body ends with. -/
def bodyOut (c : Dev nD) : sProp 𝕄 :=
  iprop(owesE c 0 ∗ semVal (barC c) 0 ∗ hopsZ c ∗ cz4 c ∗ scr c
    ∗ (((c : Thread nD τ).loc main_arg0) ↦{fullShare} (m ((c : Thread nD τ).loc main_arg0))) ∗ resA m c
    ∗ outAt c Finset.univ (outF m) ∗ owns (c : Thread nD τ) bG fullShare (gm m c))

set_option maxHeartbeats 1000000 in
/-- The body. -/
theorem wp_body (c : Dev nD) (f0) (f1) (f2) (f3) (f4) (Q : PUnit → sProp 𝕄) :
    bodyIn m K c f0 f1 f2 f3 f4 ⊢ iprop((bodyOut m c -∗ Q ⟨⟩) -∗ WP c (tail0 c bG) Q) := by
  unfold bodyIn bodyOut hopsG hopsZ
  rw [out_list c f0, bigSep_fin6, bigSep_fin6, tail0_eq]
  iintro ⟨#HR, #Hlev, HO, Hsh, ⟨⟨Hg0, Hg0'⟩, ⟨Hg1, Hg1'⟩, ⟨Hg2, Hg2'⟩, ⟨Hg3, Hg3'⟩, ⟨Hg4, Hg4'⟩, Hg5, Hg5'⟩, Hz, Hs, Hpar, Hres,
    ⟨A0, B0, A1, A2, A3, B1, B2, B3⟩, Hv1, Hv2, Hv3, Hv4, Hgam⟩ Hk
  ihave Hpar := (pointsTo_share (PosShare.mem_left_op_right fullShare)).1 $$ Hpar
  icases Hpar with ⟨HL, HRr⟩
  ihave Hown := (own_free c (k0_off6_inb c 0) (k0_off6_inb c 1) f0) $$ [A0 B0]
  · isplitl [A0] <;> iassumption
  icases Hown with ⟨Ho0, Ho1⟩
  ihave HgP := (give_prv c f1 f0) $$ [Hv1 A1 A2 A3]
  · isplitl [Hv1]; · iexact Hv1
    isplitl [A1]; · iexact A1
    isplitl [A2] <;> iassumption
  ihave HgN := (give_nxt c f2 f0) $$ [Hv2 B1 B2 B3]
  · isplitl [Hv2]; · iexact Hv2
    isplitl [B1]; · iexact B1
    isplitl [B2] <;> iassumption
  ihave HsR := (send_slotsR c f3) $$ Hv3
  ihave HsL := (send_slotsL c f4) $$ Hv4
  unfold sendFree
  icases HsR with ⟨R00, R01, R10, R11⟩
  icases HsL with ⟨L00, L01, L10, L11⟩
  iapply (wp_shake m K c _ _ (dev1_eq c) (dev2_eq c) _ Q) $$ [HO Hsh HgP HgN]
  · isplitr; · iexact HR
    isplitr; · iexact Hlev
    isplitl [HgP]; · iexact HgP
    isplitl [HgN]; · iexact HgN
    isplitl [HO] <;> iassumption
  unfold barPay
  rw [bigSep_fin6, bigSep_fin6, nb_false, nb_true]
  iintro ⟨HO, ⟨TR0, TR1, TR2, TR3, TR4, TR5⟩, ⟨TL0, TL1, TL2, TL3, TL4, TL5⟩, HzB⟩
  ihave HL := (lendL m c) $$ HL
  icases HL with ⟨SR, HbL⟩
  ihave HRr := (lendR m c) $$ HRr
  icases HRr with ⟨SL, HbR⟩
  iapply (wp_hop m K c _ _ 0 (dev3_eq c) (dev4_eq c) _ _ _ Q) $$ [HO SR SL TR0 TL0 Hg0 Hg0']
  · isplitr; · iexact HR
    isplitr; · iexact Hlev
    isplitl [SR]; · iexact SR
    isplitl [SL]; · iexact SL
    isplitl [TR0]; · iexact TR0
    isplitl [TL0]; · iexact TL0
    isplitl [HO]; · iexact HO
    isplitl [Hg0] <;> iassumption
  iintro ⟨HO, SR, SL, VR, VL, Z0, Z0'⟩
  ihave HL := HbL $$ SR
  ihave HRr := HbR $$ SL
  rw [tail1_eq]
  iapply (wp_add1 m c 1 _ Q) $$ [HO Hz Hs HL HRr VR VL R00 R01 L00 L01]
  · isplitr; · iexact Hlev
    isplitl [HO]; · iexact HO
    isplitl [Hz]; · iexact Hz
    isplitl [Hs]; · iexact Hs
    isplitl [HL]; · iexact HL
    isplitl [HRr]; · iexact HRr
    isplitl [VR]; · iexact VR
    isplitl [VL]; · iexact VL
    isplitl [R00 R01]; · isplitl [R00] <;> iassumption
    isplitl [L00] <;> iassumption
  iintro ⟨HO, Hz, Hs, HL, HRr, SR, SL⟩
  iapply (wp_hop m K c _ _ 1 (dev5_eq c) (dev6_eq c) _ _ _ Q) $$ [HO SR SL TR1 TL1 Hg1 Hg1']
  · isplitr; · iexact HR
    isplitr; · iexact Hlev
    isplitl [SR]; · iexact SR
    isplitl [SL]; · iexact SL
    isplitl [TR1]; · iexact TR1
    isplitl [TL1]; · iexact TL1
    isplitl [HO]; · iexact HO
    isplitl [Hg1] <;> iassumption
  iintro ⟨HO, -, -, VR, VL, Z1, Z1'⟩
  iapply (wp_add2 m c 2 _ Q) $$ [HO Hz Hs HL HRr VR VL R10 R11 L10 L11]
  · isplitr; · iexact Hlev
    isplitl [HO]; · iexact HO
    isplitl [Hz]; · iexact Hz
    isplitl [Hs]; · iexact Hs
    isplitl [HL]; · iexact HL
    isplitl [HRr]; · iexact HRr
    isplitl [VR]; · iexact VR
    isplitl [VL]; · iexact VL
    isplitl [R10 R11]; · isplitl [R10] <;> iassumption
    isplitl [L10] <;> iassumption
  iintro ⟨HO, Hz, Hs, HL, HRr, SR, SL⟩
  iapply (wp_hop m K c _ _ 2 (dev7_eq c) (dev8_eq c) _ _ _ Q) $$ [HO SR SL TR2 TL2 Hg2 Hg2']
  · isplitr; · iexact HR
    isplitr; · iexact Hlev
    isplitl [SR]; · iexact SR
    isplitl [SL]; · iexact SL
    isplitl [TR2]; · iexact TR2
    isplitl [TL2]; · iexact TL2
    isplitl [HO]; · iexact HO
    isplitl [Hg2] <;> iassumption
  iintro ⟨HO, -, -, VR, VL, Z2, Z2'⟩
  unfold tail2
  rw [tail3_eq]
  iapply (wp_fin m c 3 _ Q) $$ [HO Hz Hs HL Hres VR VL Hgam Ho0 Ho1]
  · isplitr; · iexact Hlev
    isplitl [HO]; · iexact HO
    isplitl [Hz]; · iexact Hz
    isplitl [Hs]; · iexact Hs
    isplitl [HL]; · iexact HL
    isplitl [Hres]; · iexact Hres
    isplitl [VR]; · iexact VR
    isplitl [VL]; · iexact VL
    isplitl [Hgam]; · iexact Hgam
    isplitl [Ho0] <;> iassumption
  iintro ⟨HO, Hz, Hs, HL, Hres, Hgam, SR, SL⟩
  iapply (wp_hop m K c _ _ 3 (dev9_eq c) (dev10_eq c) _ _ _ Q) $$ [HO SR SL TR3 TL3 Hg3 Hg3']
  · isplitr; · iexact HR
    isplitr; · iexact Hlev
    isplitl [SR]; · iexact SR
    isplitl [SL]; · iexact SL
    isplitl [TR3]; · iexact TR3
    isplitl [TL3]; · iexact TL3
    isplitl [HO]; · iexact HO
    isplitl [Hg3] <;> iassumption
  iintro ⟨HO, S3R, S3L, VR, VL, Z3, Z3'⟩
  ihave SR := (relay3F m c) $$ VR
  ihave SL := (relay3T m c) $$ VL
  iapply (wp_hop m K c _ _ 4 (dev11_eq c) (dev12_eq c) _ _ _ Q) $$ [HO SR SL TR4 TL4 Hg4 Hg4']
  · isplitr; · iexact HR
    isplitr; · iexact Hlev
    isplitl [SR]; · iexact SR
    isplitl [SL]; · iexact SL
    isplitl [TR4]; · iexact TR4
    isplitl [TL4]; · iexact TL4
    isplitl [HO]; · iexact HO
    isplitl [Hg4] <;> iassumption
  iintro ⟨HO, S4R, S4L, VR, VL, Z4, Z4'⟩
  ihave SR := (relay4F m c) $$ VR
  ihave SL := (relay4T m c) $$ VL
  iapply (wp_hop m K c _ _ 5 (dev13_eq c) (dev14_eq c) _ _ _ Q) $$ [HO SR SL TR5 TL5 Hg5 Hg5']
  · isplitr; · iexact HR
    isplitr; · iexact Hlev
    isplitl [SR]; · iexact SR
    isplitl [SL]; · iexact SL
    isplitl [TR5]; · iexact TR5
    isplitl [TL5]; · iexact TL5
    isplitl [HO]; · iexact HO
    isplitl [Hg5] <;> iassumption
  iintro ⟨HO, S5R, S5L, VR, VL, Z5, Z5'⟩
  ihave Hout := (out_end m c) $$ [S3R S3L S4R S4L S5R S5L VR VL]
  · isplitl [S3R S3L]; · isplitl [S3R] <;> iassumption
    isplitl [S4R S4L]; · isplitl [S4R] <;> iassumption
    isplitl [S5R S5L]; · isplitl [S5R] <;> iassumption
    isplitl [VR] <;> iassumption
  ihave Hpar := (pointsTo_share (PosShare.mem_left_op_right fullShare)).2 $$ [HL HRr]
  · isplitl [HL]; · iexact HL
    iexact HRr
  unfold WP
  rw [wp_ret]; imodintro
  iapply Hk
  isplitl [HO]
  · rw [← debt_end c]; iexact HO
  isplitl [HzB]; · iexact HzB
  isplitl [Z0 Z0' Z1 Z1' Z2 Z2' Z3 Z3' Z4 Z4' Z5 Z5']
  · isplitl [Z0 Z0']; · isplitl [Z0] <;> iassumption
    isplitl [Z1 Z1']; · isplitl [Z1] <;> iassumption
    isplitl [Z2 Z2']; · isplitl [Z2] <;> iassumption
    isplitl [Z3 Z3']; · isplitl [Z3] <;> iassumption
    isplitl [Z4 Z4']; · isplitl [Z4] <;> iassumption
    isplitl [Z5] <;> iassumption
  isplitl [Hz]; · iexact Hz
  isplitl [Hs]; · iexact Hs
  isplitl [Hpar]; · iexact Hpar
  isplitl [Hres]; · iexact Hres
  isplitl [Hout]; · iexact Hout
  iexact Hgam

end Cert.KernelIdeal.Ring
-- ==== Proof.RunI.Core.lean ====
/-
The launch's data: what each device's kernel starts with, what it ends with, and that its body leads from one to the other.
-/
module

public import proofs.«01_k».proof.Proof.RunI.Body

@[expose] public section

set_option maxRecDepth 16384

noncomputable section

namespace Cert.KernelIdeal.Ring

open Cert.KernelIdeal Cert.KernelIdeal.Gen
open Idealize.ShloMosaic
open Idealize.ShloMosaic.TcCoe
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The pipeline's own semaphores of the kernel: the copies' and the transfers'. -/
abbrev osem : Fin 4 ⊕ (Bool × Fin 6 × Bool) → SemLoc sig
  | .inl i => .dma (copyS i)
  | .inr x => csem (some x)

/-- All of one kind of thing over the hops, in one direction. -/
abbrev each (Φ : Fin 6 → Bool → sProp 𝕄) (b : Bool) : sProp 𝕄 := bigSep Finset.univ fun h : Fin 6 => Φ h b

/-- Device `c`'s places at its own semaphores. -/
def places (c : Dev nD) : sProp 𝕄 :=
  iprop(atPos ER (barC c) 0 ∅ 0
    ∗ (each (fun h b => atPos ER (sendC c h b) 0 ∅ 0) false ∗ each (fun h b => atPos ER (sendC c h b) 0 ∅ 0) true)
    ∗ each (fun h b => atPos ER (recvC c h b) 0 ∅ 0) false ∗ each (fun h b => atPos ER (recvC c h b) 0 ∅ 0) true)

/-- The tokens of the duties device `c` pays. -/
def payToks (c : Dev nD) : sProp 𝕄 :=
  iprop(dutyTok ER (barC (prv c)) 0 false ∗ dutyTok ER (barC (nxt c)) 0 true
    ∗ (each (fun h b => dutyTok ER (sendC c h b) 0 false) false ∗ each (fun h b => dutyTok ER (sendC c h b) 0 false) true)
    ∗ each (fun h b => dutyTok ER (recvC (nb c b) h b) 0 false) false ∗ each (fun h b => dutyTok ER (recvC (nb c b) h b) 0 false) true)

/-- The credit of what device `c` is sent. -/
def credits (c : Dev nD) : sProp 𝕄 :=
  iprop(cred (tallyAt (barC c) () 2)
    ∗ each (fun h b => cred (tallyAt (recvC c h b) () N)) false ∗ each (fun h b => cred (tallyAt (recvC c h b) () N)) true)

/-- The ghost state of the ring on device `c`. -/
def ghost (c : Dev nD) : sProp 𝕄 := iprop(∃ K, records m K ∗ places c ∗ payToks c)

/-- The buffers outside the launch's own, at launch. -/
def bufs (c : Dev nD) : sProp 𝕄 :=
  iprop((((c : Thread nD τ).loc main_arg0) ↦{fullShare} (m ((c : Thread nD τ).loc main_arg0))) ∗ resA m c
    ∗ outAt c Finset.univ (m ((c : Thread nD τ).loc main_v1_0))
    ∗ (((c : Thread nD τ).loc main_v1_1) ↦{fullShare} (m ((c : Thread nD τ).loc main_v1_1)))
    ∗ (((c : Thread nD τ).loc main_v1_2) ↦{fullShare} (m ((c : Thread nD τ).loc main_v1_2)))
    ∗ (((c : Thread nD τ).loc main_v1_3) ↦{fullShare} (m ((c : Thread nD τ).loc main_v1_3)))
    ∗ (((c : Thread nD τ).loc main_v1_4) ↦{fullShare} (m ((c : Thread nD τ).loc main_v1_4))))

/-- What enters the kernel besides its scoped memory. -/
def start (c : Dev nD) : sProp 𝕄 := iprop(ghost m c ∗ credits c ∗ levAts L lv ∗ bufs m c)

/-- Before the kernel's one point. -/
def Φ₀ (c : Dev nD) : sProp 𝕄 := iprop(start m c ∗ cz4 c ∗ scr c)
/-- After it. -/
def Φ₁ (c : Dev nD) : sProp 𝕄 :=
  iprop(semVal (barC c) 0 ∗ hopsZ c ∗ cz4 c ∗ scr c
    ∗ (((c : Thread nD τ).loc main_arg0) ↦{fullShare} (m ((c : Thread nD τ).loc main_arg0))) ∗ resA m c
    ∗ outAt c Finset.univ (outF m))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gm m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The ghost state of the body, hop by hop. -/
theorem hops_of (c : Dev nD) : iprop(places c ∗ payToks c ∗ credits c) ⊢ (iprop(shakeG c ∗ hopsG c) : sProp 𝕄) := by
  unfold places payToks credits shakeG hopsG hopG each
  simp only [bigSep_sep']
  iintro ⟨⟨Pb, ⟨Ps, Ps'⟩, Pr, Pr'⟩, ⟨Tb, Tb', ⟨Ts, Ts'⟩, Tr, Tr'⟩, Cb, Cr, Cr'⟩
  isplitl [Pb Tb Tb' Cb]
  · isplitl [Pb]; · iexact Pb
    isplitl [Cb]; · iexact Cb
    isplitl [Tb] <;> iassumption
  isplitl [Ps Pr Ts Tr Cr]
  · isplitl [Ps]; · iexact Ps
    isplitl [Pr]; · iexact Pr
    isplitl [Ts]; · iexact Ts
    isplitl [Tr] <;> iassumption
  · isplitl [Ps']; · iexact Ps'
    isplitl [Pr']; · iexact Pr'
    isplitl [Ts']; · iexact Ts'
    isplitl [Tr'] <;> iassumption

/-- Before the body, as the body takes it. -/
def bodyPre (c : Dev nD) : sProp 𝕄 :=
  iprop(Φ₀ m c ∗ (dats m ρ 0 c).owesAt () t0_0.castSucc ∗ (∃ d, owns (c : Thread nD τ) bG fullShare ((dats m ρ 0 c).before (0 : Fin 1) t0_0 d)))
def bodyPost (c : Dev nD) : sProp 𝕄 :=
  iprop(Φ₁ m c ∗ (dats m ρ 0 c).owesAt () t0_0.succ ∗ owns (c : Thread nD τ) bG fullShare (gm m c))

theorem before_eq (c : Dev nD) (d) : (dats m ρ 0 c).before (0 : Fin 1) t0_0 d = gm m c := by
  unfold Dat.before
  rw [if_pos (fetch0_0 t0_0)]
  show (win0_0.blk t0_0).view.read (Elt F) (gm m c) = gm m c
  exact Memref.read_access_unit_zero (Elt F) main_arg2 (by funext a; fin_cases a; rfl) _ _

theorem sound_body (c : Dev nD) : bodyPre m ρ c ⊢ WP c (.op .deviceId fun d => tail0 d bG) (fun _ => bodyPost m ρ c) := by
  unfold WP
  rw [wp_deviceId]
  unfold bodyPre Φ₀ start ghost bufs
  iintro ⟨⟨⟨⟨%K, #HR, Hpl, Htk⟩, Hcr, #Hlev, Ha, Hres, H0, H1, H2, H3, H4⟩, Hz, Hs⟩, Ho, ⟨%d, Hg⟩⟩
  rw [before_eq]
  unfold Dat.owesAt Pipeline.owesWithin
  icases Ho with ⟨%W, %hW, HO⟩
  rw [show (dats m ρ 0 c).owed t0_0.castSucc = O₀ c from rfl]
  ihave Hh := (hops_of c) $$ [Hpl Htk Hcr]
  · isplitl [Hpl]; · iexact Hpl
    isplitl [Htk] <;> iassumption
  icases Hh with ⟨Hsh, Hho⟩
  iapply (wp_body m K c _ _ _ _ _ (fun _ => bodyPost m ρ c)) $$ [HO Hsh Hho Hz Hs Ha Hres H0 H1 H2 H3 H4 Hg]
  · unfold bodyIn
    isplitr; · iexact HR
    isplitr; · iexact Hlev
    isplitl [HO]; · iexists W; iexact HO
    isplitl [Hsh]; · iexact Hsh
    isplitl [Hho]; · iexact Hho
    isplitl [Hz]; · iexact Hz
    isplitl [Hs]; · iexact Hs
    isplitl [Ha]; · iexact Ha
    isplitl [Hres]; · iexact Hres
    isplitl [H0]; · iexact H0
    isplitl [H1]; · iexact H1
    isplitl [H2]; · iexact H2
    isplitl [H3]; · iexact H3
    isplitl [H4]; · iexact H4
    iexact Hg
  unfold bodyOut bodyPost Φ₁ Dat.owesAt Pipeline.owesWithin
  iintro ⟨⟨%W', HO⟩, Hb, Hh, Hz, Hs, Ha, Hres, Hout, Hg⟩
  rw [show (dats m ρ 0 c).owed t0_0.succ = 0 from rfl]
  isplitl [Hb Hh Hz Hs Ha Hres Hout]
  · isplitl [Hb]; · iexact Hb
    isplitl [Hh]; · iexact Hh
    isplitl [Hz]; · iexact Hz
    isplitl [Hs]; · iexact Hs
    isplitl [Ha]; · iexact Ha
    isplitl [Hres] <;> iassumption
  isplitl [HO]
  · iexists W'
    isplitr; · ipureintro; exact fun _ _ => Or.inl trivial
    iexact HO
  iexact Hg

theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ wp frame (wpE (defs₀ (F := F)) 𝒱₀ c none) Set.univ
    (cc0_body (F := F) bPar (Memref.isWhole_whole _) bRes (Memref.isWhole_whole _) bG (Memref.isWhole_whole _) bOut
      (Memref.isWhole_whole _) bRr (Memref.isWhole_whole _) bRl (Memref.isWhole_whole _) bSr (Memref.isWhole_whole _)
      bSl (Memref.isWhole_whole _) bW (Memref.isWhole_whole _) bP (Memref.isWhole_whole _) bR (Memref.isWhole_whole _)
      cc0_scratch3 cc0_scratch4 cc0_scratch5 cc0_scratch6 cc0_scratch7) (fun _ => bodyPost m ρ c)
  rw [cc0_body_eq_skeleton, body_chain]
  exact sound_body m ρ c

end Cert.KernelIdeal.Ring
-- ==== Proof.RunI.Launch.lean ====
/-
The launch: the ring's semaphores are set up, their tokens go round the ring, and the run of the four devices follows.
-/
module

public import proofs.«01_k».proof.Proof.RunI.Core
public import Idealize.ShloMosaic.Lib.Pipeline.CollectiveSegs

@[expose] public section

set_option maxRecDepth 16384

noncomputable section

namespace Cert.KernelIdeal.Ring

open Cert.KernelIdeal Cert.KernelIdeal.Gen
open Idealize.ShloMosaic
open Idealize.ShloMosaic.TcCoe
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats (F := F) m ρ 0 c).share w = fullShare := by unfold Dat.share; split <;> rfl

theorem kcell_inj : Function.Injective (kcell : Dev nD × CK → GSem nD τ sig) := by
  rintro ⟨c, k⟩ ⟨c', k'⟩ h
  obtain rfl : c = c' := congrArg (fun g : GSem nD τ sig => g.1.1) h
  obtain rfl : k = k' := csem_inj (congrArg Prod.snd h)
  rfl

/-- All semaphores of the ring. -/
def ringCells : Finset (GSem nD τ sig) := Finset.univ.map ⟨kcell, kcell_inj⟩

/-- The duties, by device: the barrier's two, and one of each transfer semaphore. -/
def tokOf (x : Dev nD × (Bool ⊕ (Bool × Fin 6 × Bool))) : GSem nD τ sig × ℕ × Bool :=
  match x.2 with
  | .inl d => (barC x.1, 0, d)
  | .inr y => (kcell (x.1, some y), 0, false)

theorem tokOf_inj : Function.Injective tokOf := by
  rintro ⟨c, x⟩ ⟨c', x'⟩ h
  rcases x with d | y <;> rcases x' with d' | y'
  · have h1 : (c, (none : CK)) = (c', none) := kcell_inj (congrArg Prod.fst h)
    have h2 : d = d' := congrArg (fun t : GSem nD τ sig × ℕ × Bool => t.2.2) h
    rw [Prod.mk.injEq] at h1; rw [h1.1, h2]
  · have h1 : (c, (none : CK)) = (c', some y') := kcell_inj (congrArg Prod.fst h)
    cases (Prod.mk.inj h1).2
  · have h1 : (c, (some y : CK)) = (c', none) := kcell_inj (congrArg Prod.fst h)
    cases (Prod.mk.inj h1).2
  · have h1 : (c, (some y : CK)) = (c', some y') := kcell_inj (congrArg Prod.fst h)
    rw [Prod.mk.injEq, Option.some.injEq] at h1; rw [h1.1, h1.2]

def ringToks : Finset (GSem nD τ sig × ℕ × Bool) := Finset.univ.map ⟨tokOf, tokOf_inj⟩

def u₀ : UU :=
  (initOf (Pipeline.cells cfgs cellOf_inj) (Pipeline.launchToks cfgs cellOf_inj), (initOf ringCells ringToks, 1))

theorem own_ring (a : UB) : BI.own (embR ((a, 1) : UB × Counters)) ⊢ (BI.own (ER a) : sProp 𝕄) := by
  rfl

/-! ## The ring's semaphores of a device, listed -/

theorem bigSep_bool' (Φ : Bool → sProp 𝕄) : bigSep Finset.univ Φ = iprop(Φ false ∗ Φ true) :=
  bigSep_univ_eq_bigSepL [false, true] (by decide) (by decide) Φ

/-- Over the transfer semaphores: the send semaphores of both directions, then the receive semaphores. -/
theorem bigSep_x (Φ : Bool × Fin 6 × Bool → sProp 𝕄) :
    bigSep Finset.univ Φ = iprop((each (fun h b => Φ (false, h, b)) false ∗ each (fun h b => Φ (false, h, b)) true)
      ∗ each (fun h b => Φ (true, h, b)) false ∗ each (fun h b => Φ (true, h, b)) true) := by
  rw [BI.bigSep_univ_prod Φ, bigSep_bool', BI.bigSep_univ_prod (fun p : Fin 6 × Bool => Φ (false, p)),
    BI.bigSep_univ_prod (fun p : Fin 6 × Bool => Φ (true, p))]
  simp only [bigSep_bool', bigSep_sep']

theorem bigSep_ck (Φ : CK → sProp 𝕄) :
    bigSep Finset.univ Φ = iprop(Φ none ∗ (each (fun h b => Φ (some (false, h, b))) false ∗ each (fun h b => Φ (some (false, h, b))) true)
      ∗ each (fun h b => Φ (some (true, h, b))) false ∗ each (fun h b => Φ (some (true, h, b))) true) := by
  have hu : (Finset.univ : Finset CK) = insert none (Finset.univ.map Function.Embedding.some) := by
    ext x; cases x <;> simp
  rw [hu, BI.bigSep_insert (by simp), BI.bigSep_map]
  exact congrArg (fun P => iprop(Φ none ∗ P)) (bigSep_x fun x => Φ (some x))

/-- The tokens of the duties of device `c`'s own semaphores. -/
def toks (c : Dev nD) : sProp 𝕄 :=
  iprop((dutyTok ER (barC c) 0 false ∗ dutyTok ER (barC c) 0 true)
    ∗ (each (fun h b => dutyTok ER (sendC c h b) 0 false) false ∗ each (fun h b => dutyTok ER (sendC c h b) 0 false) true)
    ∗ each (fun h b => dutyTok ER (recvC c h b) 0 false) false ∗ each (fun h b => dutyTok ER (recvC c h b) 0 false) true)

/-- What the launch deals device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [BI.bigSep_map, BI.bigSep_univ_prod]; rfl
  have hT : bigSep ringToks (fun x => (dutyTok ER x.1 x.2.1 x.2.2 : sProp 𝕄)) = bigSep Finset.univ fun c : Dev nD => toks c := by
    unfold ringToks; rw [BI.bigSep_map, BI.bigSep_univ_prod]
    refine bigSep_congr fun c _ => ?_
    unfold toks
    rw [BI.bigSep_univ_sum, bigSep_bool', bigSep_x]
    rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- All semaphores of the kernel on a device, at zero. -/
theorem ownSems0_eq (c : Dev nD) : (Pipeline.ownSems0 (Ix := Unit) (Name := ℕ) (U := UU) (Lvl := ℕ) (Val := Elt F) (τ := τ) osem c : sProp 𝕄)
    = iprop(cz4 c ∗ (each (fun h b => semVal (sendC c h b) 0) false ∗ each (fun h b => semVal (sendC c h b) 0) true)
      ∗ each (fun h b => semVal (recvC c h b) 0) false ∗ each (fun h b => semVal (recvC c h b) 0) true) := by
  unfold Pipeline.ownSems0
  rw [BI.bigSep_univ_sum, bigSep_x, bigSep_univ_eq_bigSepL [(0 : Fin 4), 1, 2, 3] (by decide) (by decide)]
  rfl

theorem unscopedSems0_eq (c : Dev nD) : (unscopedSems0 c : sProp 𝕄) = semVal (barC c) 0 := by
  unfold unscopedSems0; rw [bigSep_eq_bigSepL_of_eq [SemLoc.reg barS] (by decide) (by decide)]; rfl

/-- What the set-up makes of the launch's deal. -/
def G' (c : Dev nD) : sProp 𝕄 := iprop(ghost m c ∗ cz4 c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ cz4 c) := by
  unfold G
  rw [ownSems0_eq, unscopedSems0_eq]
  iintro ⟨⟨Hz, HX⟩, HB, Hst, Hat, Htok⟩
  ihave Hv := (Entails.of_eq (bigSep_ck fun k : CK => (semVal (kcell (c, k)) 0 : sProp 𝕄)).symm) $$ [HX HB]
  · isplitl [HB]; · iexact HB
    iexact HX
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens go round the ring: to the device that pays the duty. -/
theorem toks_around : (bigSep Finset.univ fun c : Dev nD => (toks c : sProp 𝕄)) ⊢ bigSep Finset.univ fun c : Dev nD => payToks c := by
  unfold toks payToks
  simp only [bigSep_sep']
  rw [BI.bigSep_univ_equiv (ring true) (fun c : Dev nD => (dutyTok ER (barC c) 0 false : sProp 𝕄)),
    BI.bigSep_univ_equiv (ring false) (fun c : Dev nD => (dutyTok ER (barC c) 0 true : sProp 𝕄)),
    BI.bigSep_univ_equiv (ring false) (fun c : Dev nD => each (fun h b => (dutyTok ER (recvC c h b) 0 false : sProp 𝕄)) false),
    BI.bigSep_univ_equiv (ring true) (fun c : Dev nD => each (fun h b => (dutyTok ER (recvC c h b) 0 false : sProp 𝕄)) true)]
  iintro ⟨⟨H1, H2⟩, ⟨H3, H4⟩, H5, H6⟩
  isplitl [H1]; · iexact H1
  isplitl [H2]; · iexact H2
  isplitl [H3 H4]; · isplitl [H3] <;> iassumption
  isplitl [H5]; · iexact H5
  iexact H6

theorem with_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine BIBase.Entails.trans (show iprop(R ∗ bigSep S Φ) ⊢ iprop(bigSep S (fun _ => R) ∗ bigSep S Φ) from Laws.sep_mono (BI.bigSep_of_persistent S R) BIBase.Entails.rfl) ?_
  rw [← bigSep_sep']
  exact bigSep_mono h

theorem ghost_intro (K : Dev nD × CK → ℕ) (c : Dev nD) : iprop(records m K ∗ (places c ∗ payToks c ∗ cz4 c)) ⊢ G' m c := by
  unfold G' ghost
  iintro ⟨#HR, Hp, Ht, Hz⟩
  isplitr [Hz]
  · iexists K
    isplitr; · iexact HR
    isplitl [Hp] <;> iassumption
  iexact Hz

theorem places_eq (c : Dev nD) : bigSep Finset.univ (fun k : CK => (atPos ER (kcell (c, k)) 0 ∅ 0 : sProp 𝕄)) = places c :=
  bigSep_ck _

theorem sep_three {I : Type} [Fintype I] [DecidableEq I] (Φ Ψ Χ : I → sProp 𝕄) :
    bigSep Finset.univ (fun i => iprop(Φ i ∗ Ψ i ∗ Χ i)) = iprop(bigSep Finset.univ Φ ∗ bigSep Finset.univ Ψ ∗ bigSep Finset.univ Χ) := by
  rw [bigSep_sep', bigSep_sep']

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ cz4 c) : sProp 𝕄)
      ⊢ bigSep Finset.univ (G' m) := by
  have hA : (bigSep Finset.univ fun c : Dev nD => bigSep Finset.univ fun k : CK => iprop(atPos ER (kcell (c, k)) 0 ∅ 0 ∗ reached ER (kcell (c, k)) 0) : sProp 𝕄)
      = iprop((bigSep Finset.univ fun c : Dev nD => places c) ∗ bigSep Finset.univ fun ck : Dev nD × CK => reached ER (kcell ck) 0) := by
    rw [bigSep_congr (s := Finset.univ) (fun (c : Dev nD) _ => (bigSep_sep' Finset.univ (fun k : CK => (atPos ER (kcell (c, k)) 0 ∅ 0 : sProp 𝕄)) (fun k => reached ER (kcell (c, k)) 0)).trans
      (by rw [places_eq])), bigSep_sep', ← BI.bigSep_univ_prod (fun ck : Dev nD × CK => (reached ER (kcell ck) 0 : sProp 𝕄))]
  rw [bigSep_sep', bigSep_sep', hA, ← BI.bigSep_univ_prod (fun ck : Dev nD × CK => iprop(∃ κ : ℕ, cellInv ER (Rd m) κ (kcell ck))), bigSep_sep']
  iintro ⟨HI, ⟨Hat, #HR⟩, Htok, Hz⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (with_pers (R := records m K) (Φ := fun c : Dev nD => iprop(places c ∗ payToks c ∗ cz4 c)) fun c _ => ghost_intro m K c)
  isplitr
  · unfold records; isplitl; · iexact HI
    iexact HR
  · iapply (Entails.of_eq (sep_three (fun c : Dev nD => (places c : sProp 𝕄)) payToks cz4).symm)
    isplitl [Hat]; · iexact Hat
    isplitl [Htk]; · iexact Htk
    iexact Hz

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem cell_iff {a b : Dev nD} {k k' : CK} : kcell (a, k) = kcell (b, k') ↔ a = b ∧ k = k' :=
  ⟨fun h => Prod.mk.inj (kcell_inj h), fun ⟨h1, h2⟩ => by rw [h1, h2]⟩

theorem debt_bar (d c : Dev nD) (k : ℕ) : debt d k (barC c) () = 0 := by
  by_contra hn
  obtain ⟨h, b, -, hg⟩ := debt_pos (Nat.pos_of_ne_zero hn)
  cases (cell_iff (k := none) (k' := some (true, h, b)).mp hg).2

theorem owed_bar (d c : Dev nD) : O₀ d (barC c) () = (if d = prv c then 1 else 0) + (if d = nxt c then 1 else 0) := by
  unfold O₀ O₁
  rw [Pi.add_apply, Finsupp.add_apply, Pi.add_apply, Finsupp.add_apply, debt_bar, tallyAt_apply, tallyAt_apply, Nat.zero_add]
  have h1 : (barC c = barC (nxt d) ∧ () = ()) ↔ d = prv c := by
    rw [and_iff_left rfl, show barC c = kcell (c, none) from rfl, show barC (nxt d) = kcell (nxt d, none) from rfl, cell_iff, and_iff_left rfl]
    exact ⟨fun h => by rw [h, prv_nxt], fun h => by rw [h, nxt_prv]⟩
  have h2 : (barC c = barC (prv d) ∧ () = ()) ↔ d = nxt c := by
    rw [and_iff_left rfl, show barC c = kcell (c, none) from rfl, show barC (prv d) = kcell (prv d, none) from rfl, cell_iff, and_iff_left rfl]
    exact ⟨fun h => by rw [h, nxt_prv], fun h => by rw [h, prv_nxt]⟩
  exact congrArg₂ (· + ·) (if_congr h1 rfl rfl) (if_congr h2 rfl rfl)

theorem owed_recv (d c : Dev nD) (h : Fin 6) (b : Bool) : O₀ d (recvC c h b) () = if d = fr c b then N else 0 := by
  have hb (e : Dev nD) : ¬ (recvC c h b = barC e ∧ () = ()) := fun hh => by
    cases (cell_iff (k := some (true, h, b)) (k' := none).mp hh.1).2
  have hx (h' : Fin 6) (b' : Bool) : (recvC c h b = recvC (nb d b') h' b' ∧ () = ()) ↔ (d = fr c b ∧ h = h' ∧ b = b') := by
    rw [and_iff_left rfl, show recvC c h b = kcell (c, some (true, h, b)) from rfl,
      show recvC (nb d b') h' b' = kcell (nb d b', some (true, h', b')) from rfl, cell_iff]
    simp only [Option.some.injEq, Prod.mk.injEq, true_and]
    constructor
    · rintro ⟨h1, h2, rfl⟩; exact ⟨by rw [h1, fr_nb], h2, rfl⟩
    · rintro ⟨h1, h2, rfl⟩; exact ⟨by rw [h1, nb_fr], h2, rfl⟩
  unfold O₀ O₁ debt
  rw [Pi.add_apply, Finsupp.add_apply, Pi.add_apply, Finsupp.add_apply, tallyAt_apply, tallyAt_apply, if_neg (hb _), if_neg (hb _)]
  simp only [Nat.add_zero]
  rw [Finset.sum_apply, Finsupp.finset_sum_apply]
  have hs (h' : Fin 6) : (owedX d h' true + owedX d h' false) (recvC c h b) ()
      = (if d = fr c b ∧ h = h' ∧ b = true then N else 0) + (if d = fr c b ∧ h = h' ∧ b = false then N else 0) := by
    rw [Pi.add_apply, Finsupp.add_apply, tallyAt_apply, tallyAt_apply]
    exact congrArg₂ (· + ·) (if_congr (hx h' true) rfl rfl) (if_congr (hx h' false) rfl rfl)
  rw [Finset.sum_congr rfl fun h' _ => hs h']
  by_cases hd : d = fr c b
  · cases b <;> simp [hd]
  · simp [hd]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (h : Fin 6) (b : Bool) :
    tallyOn (recvC c h b) (launchCredit (Pipeline.owing O₀) 0 (recvC c h b)) = (tallyAt (recvC c h b) () N : CellTallies nD τ sig Unit) := by
  unfold tallyAt; refine congrArg _ (Finsupp.ext fun u => ?_); cases u
  rw [Pipeline.launchCredit_owing, Finsupp.single_eq_same, Finset.sum_congr rfl fun d _ => owed_recv d c h b,
    Finset.sum_ite_eq' Finset.univ (fr c b) fun _ => N, if_pos (Finset.mem_univ _)]

theorem creds (c : Dev nD) : (Pipeline.launchCred O₀ c : sProp 𝕄) ⊢ credits c := by
  unfold Pipeline.launchCred credits
  refine BIBase.Entails.trans (BI.bigSep_subset (Finset.subset_univ (Finset.univ.map ⟨csem, csem_inj⟩))) ?_
  rw [BI.bigSep_map, bigSep_ck]
  simp only [each]
  iintro ⟨HB, -, H0, H1⟩
  isplitl [HB]
  · rw [← launch_bar]; iexact HB
  isplitl [H0]
  · iapply (Entails.of_eq (bigSep_congr fun (h : Fin 6) _ => congrArg (fun t => (cred t : sProp 𝕄)) (launch_recv c h false)))
    iexact H0
  · iapply (Entails.of_eq (bigSep_congr fun (h : Fin 6) _ => congrArg (fun t => (cred t : sProp 𝕄)) (launch_recv c h true)))
    iexact H1

/-! ## The entry and the exit of the kernel -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ cz4 c) ∗ emp) := by
  rw [show (Pipeline.unscopedRestP Pipeline.Prefetch.none cfg0.spec c (fun b => m ((c : Thread nD τ).loc b)) : sProp 𝕄)
      = Pipeline.unscopedRest cfg0.spec c (fun b => m ((c : Thread nD τ).loc b)) from Pipeline.unscopedRestP_none _ _ _, unscopedRest0_eq]
  unfold G' start bufs
  iintro ⟨Hb, Hlev, Hcr, -, HG, Hz⟩
  ihave Hc := (creds (F := F) c) $$ Hcr
  imodintro
  isplitl
  · isplitr [Hz]
    · isplitl [HG]; · iexact HG
      isplitl [Hc]; · iexact Hc
      isplitl [Hlev]; · iexact Hlev
      iexact Hb
    iexact Hz
  · iempintro

theorem scr_eq (c : Dev nD) : (Pipeline.scopedRest (Ix := Unit) (Name := ℕ) (U := UU) (Lvl := ℕ) (Val := Elt F) cfg0.spec c : sProp 𝕄) = scr c := by
  rw [scopedRest0_eq]
  unfold scr some'
  simp only [owns_whole]
  rfl

theorem phi0_intro (c : Dev nD) :
    iprop((start m c ∗ cz4 c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨⟨Hs, Hz⟩, -, Hr⟩
  isplitl [Hs]; · iexact Hs
  isplitl [Hz] <;> iassumption

/-- What is read after the run. -/
def Yc (c : Dev nD) : sProp 𝕄 :=
  iprop(unscopedSems0 c ∗ (((c : Thread nD τ).loc main_arg0) ↦{fullShare} (m ((c : Thread nD τ).loc main_arg0))) ∗ resA m c
    ∗ outAt c Finset.univ (outF m))

theorem phi1_exit (c : Dev nD) :
    (dats m ρ 0 c).Φ (Fin.last cfg0.N) ⊢ iprop(Yc m c ∗ Pipeline.ownSems0 osem c ∗ Pipeline.scopedRest cfg0.spec c) := by
  rw [show (dats m ρ 0 c).Φ (Fin.last cfg0.N) = Φ₁ m c from rfl, scr_eq, ownSems0_eq]
  unfold Yc Φ₁ hopsZ hopZ each
  rw [unscopedSems0_eq]
  simp only [bigSep_sep']
  iintro ⟨Hb, ⟨⟨S0, R0⟩, S1, R1⟩, Hz, Hs, Ha, Hres, Hout⟩
  isplitl [Hb Ha Hres Hout]
  · isplitl [Hb]; · iexact Hb
    isplitl [Ha]; · iexact Ha
    isplitl [Hres] <;> iassumption
  isplitr [Hs]
  · isplitl [Hz]; · iexact Hz
    isplitl [S0 S1]; · isplitl [S0] <;> iassumption
    isplitl [R0] <;> iassumption
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w; fin_cases s; exact congrArg lvOf dec_stage) _ (by
      rcases t with ⟨_ | _, ht⟩
      · exact Or.inl rfl
      · exact Or.inr rfl)

/-- What holds of device `c`'s buffers after the run. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1_0) = outF m

theorem read_all (c : Dev nD) (s' : Phys nD τ sig (Elt F)) :
    iprop(Yc m c ∗ emp ∗ SI s') ⊢ (|={Set.univ}=> iprop(⌜QY m c s'.mem⌝ ∗ SI s') : sProp 𝕄) := by
  unfold Yc
  iintro ⟨⟨Hu, Ha, Hr, Ho⟩, -, HSI⟩
  icombine HSI Ha gives %ha
  icombine HSI Hr gives %hr
  icombine HSI Ho gives %ho
  imod (Idealize.ShloMosaic.Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ ha, Buf.eq_of_forall_mem_univ hr, Buf.eq_of_forall_mem_univ ho⟩
  iexact HSI

/-- The run: from any memory with zero counters every fair execution of the four devices ends, with the arguments
    unchanged, every result the normalised sums, and every semaphore counter at zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_v1_0) = outF m) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_ring _) $$ HX
      imod (fund_ring m) $$ HX with HG
      imodintro
      isplitl [HP] <;> iassumption)
    (hglob := glob m)
    (hA := fun _ _ => rfl) (hpf := fun _ k => k.elim0)
    (X := fun c => iprop(start m c ∗ cz4 c)) (Y := Yc m) (Z := fun _ => iprop(emp))
    (hX := start_intro m ρ) (hin := phi0_intro m ρ) (hout := phi1_exit m ρ)
    (QY := QY m) (hY := read_all m)
    (hQ := fun s h hs => ⟨fun c => ⟨(h c).2.2.2.1, (h c).2.2.2.2.1,
        ((h c).1 (0 : Fin 1)).trans ((dats (F := F) m ρ 0 c).arrAt_in (0 : Fin 1) rfl _), (h c).2.2.2.2.2⟩,
      sem_eq_zero hs fun c => (h c).2.2.1⟩)

end Cert.KernelIdeal.Ring
-- ==== Proof.Frames.lean ====
/-
The three frames: the kernel's at both instances, from its run, and the reference's, from its list of host operations.
-/
module

public import proofs.«01_k».proof.Defs
public import proofs.«01_k».proof.Proof.RunF.Launch
public import proofs.«01_k».proof.Proof.RunI.Launch
public import proofs.«01_k».proof.Proof.Gen.ReferenceIdeal.Run
public import Idealize.ShloMosaic.Lib.Quiescent

@[expose] public section

noncomputable section

namespace Cert.Frames

open Idealize.ShloMosaic Idealize.SL.Sem

theorem frame_kernel : Cert.quiescent_Kernel := by
  intro m ρ _
  exact (θ_run Cert.Kernel.defs _ _).mono (fun _ h => ⟨fun c => ⟨(h.1 c).1, (h.1 c).2.1, (h.1 c).2.2.1⟩, h.2⟩)
    (Cert.Kernel.Ring.run_main (F := Bits) m ρ)

theorem frame_ideal : Cert.quiescent_KernelIdeal := by
  intro m ρ _
  exact (θ_run Cert.KernelIdeal.defs _ _).mono (fun _ h => ⟨fun c => ⟨(h.1 c).1, (h.1 c).2.1, (h.1 c).2.2.1⟩, h.2⟩)
    (Cert.KernelIdeal.Ring.run_main (F := Ideal) m ρ)

theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Frames
-- ==== Proof.Value.lean ====
/-
The value: over the extended reals the kernel's result is the reference's term of the whole arrays.
-/
module

public import proofs.«01_k».proof.Defs
public import proofs.«01_k».proof.Proof.RunI.Geo
public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Value

open Cert.ReferenceIdeal Cert.ReferenceIdeal.Gen
open Idealize.ShloMosaic

/-- The sum of a place over the devices, and the residual there. -/
def total (P : Vec Ideal S4x8192x2048 .f32) (R : Vec Ideal S8192x2048 .f32) (a : Fin 8192) (k : Fin 2048) : EReal :=
  (∑ d : Fin 4, (P (ix3 d a k) : EReal)) + R (ix2 a k)

/-- The normalised place, of a row of sums and the weights. -/
def normed (y : Fin 2048 → EReal) (g : Fin 2048 → EReal) (k : Fin 2048) : EReal :=
  Ideal.div (y k) (Ideal.sqrt (Ideal.div (∑ l : Fin 2048, y l * y l) (Ideal.ofBits .f32 0x45000000#32) + Ideal.ofBits .f32 0x358637BD#32)) * g k

/-- The reference's sums. -/
def refSum (P : FVec Ideal S4x8192x2048 .f32) (R : FVec Ideal S8192x2048 .f32) : FVec Ideal S8192x2048 .f32 :=
  addf (Host.reduceAdd P (constant S_ .f32 0x00000000#32) reducesTo_S4x8192x2048_S8192x2048_d0 h_S_) R

/-- The reference's result. -/
def refOut (P : FVec Ideal S4x8192x2048 .f32) (R : FVec Ideal S8192x2048 .f32) (g : FVec Ideal S2048 .f32) : FVec Ideal S8192x2048 .f32 :=
  mulf (Host.divf (refSum P R) (broadcastInDim S8192x2048 ![0, 1] bcast_S8192x1_S8192x2048_0_1
    (Host.sqrt (addf (Host.divf (broadcastInDim S8192x1 ![0] bcast_S8192_S8192x1_0
      (Host.reduceAdd (mulf (refSum P R) (refSum P R)) (constant S_ .f32 0x00000000#32) reducesTo_S8192x2048_S8192_d1 h_S_))
      (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

theorem refSum_at (P : FVec Ideal S4x8192x2048 .f32) (R : FVec Ideal S8192x2048 .f32) (a : Fin 8192) (k : Fin 2048) :
    refSum P R (ix2 a k) = total P R a k := by
  unfold total
  pointwise [refSum]

theorem refOut_at (P : FVec Ideal S4x8192x2048 .f32) (R : FVec Ideal S8192x2048 .f32) (g : FVec Ideal S2048 .f32) (a : Fin 8192) (k : Fin 2048) :
    refOut P R g (ix2 a k) = normed (fun l => total P R a l) (fun l => g (ix1 l)) k := by
  unfold normed
  simp only [← refSum_at]
  pointwise [refOut]

end Cert.ReferenceIdeal.Value

namespace Cert.KernelIdeal.Ring

open Cert.KernelIdeal Cert.KernelIdeal.Gen
open Cert.ReferenceIdeal.Value (total normed refOut_at)
open Idealize.ShloMosaic
open Idealize.ShloMosaic.TcCoe

variable (m : (ℓ : Loc nD τ sig) → Buf (Elt Ideal) ℓ)

/-! ## Reading the parts -/

theorem part_at (c : Dev nD) (s : Fin 3) (b : Bool) (j : S2048x1024.Idx) (i : S1x8192x2048.Idx)
    (h1 : (i 1).val = 2048 * (if b then (c.val + 1 + s.val) % 4 else (c.val + 3 - s.val) % 4) + (j 0).val)
    (h2 : (i 2).val = (if b then 1024 else 0) + (j 1).val) : part m c s b j = pm m c i := by
  show pm m c ((Rect.unit (s := S1x8192x2048) (oB c s b) S1x2048x1024.size (oB_inb c s b)).emb (Shape.reshapeEquiv _ j)) = pm m c i
  rw [show Shape.reshapeEquiv _ j = _ from sq_emb 2048 1024 _ j]
  congr 1
  funext a
  apply Fin.ext
  refine (Rect.emb_apply _ _ a).trans ?_
  fin_cases a
  · show 0 + 1 * 0 = (i 0).val
    have : (i 0).val < 1 := (i 0).isLt
    omega
  · refine Eq.trans ?_ h1.symm
    show 2048 * _ + 1 * (j 0).val = _
    rw [Nat.one_mul]
  · refine Eq.trans ?_ h2.symm
    show (if b then 1024 else 0) + 1 * (j 1).val = (if b then 1024 else 0) + (j 1).val
    rw [Nat.one_mul]

theorem off5_eq : ∀ (c : Dev nD) (r : Fin 2), k0_off5 c (BitVec.ofNat 32 (1024 * r.val)) = ![0, 2048 * c.val + 1024 * r.val, 0] := by decide +kernel
theorem off6_eq : ∀ (c : Dev nD) (r : Fin 2), k0_off6 c (BitVec.ofNat 32 (1024 * r.val)) = ![2048 * c.val + 1024 * r.val, 0] := by decide +kernel

theorem parF_at (P : Vec Ideal S1x8192x2048 .f32) (o : Fin 3 → ℕ) (h) (x : ℕ) (ho : o = ![0, x, 0]) (j : S1024x2048.Idx) (i : S1x8192x2048.Idx)
    (h1 : (i 1).val = x + (j 0).val) (h2 : (i 2).val = (j 1).val) : (parF bPar o h).view.read (Elt Ideal) P j = P i := by
  subst ho
  show P ((Rect.unit (s := S1x8192x2048) ![0, x, 0] S1x1024x2048.size h).emb (Shape.reshapeEquiv _ j)) = P i
  rw [show Shape.reshapeEquiv _ j = _ from sq_emb 1024 2048 _ j]
  congr 1
  funext a
  apply Fin.ext
  refine (Rect.emb_apply _ _ a).trans ?_
  fin_cases a
  · show 0 + 1 * 0 = (i 0).val
    have : (i 0).val < 1 := (i 0).isLt
    omega
  · show x + 1 * (j 0).val = (i 1).val; omega
  · show 0 + 1 * (j 1).val = (i 2).val; omega

theorem rowC_at (P : Vec Ideal S8192x2048 .f32) (o : Fin 2 → ℕ) (h) (x : ℕ) (ho : o = ![x, 0]) (j : S1024x2048.Idx) (i : S8192x2048.Idx)
    (h0 : (i 0).val = x + (j 0).val) (h1 : (i 1).val = (j 1).val) : (rowC bRes o h).view.read (Elt Ideal) P j = P i := by
  subst ho
  show P ((Rect.unit (s := S8192x2048) ![x, 0] S1024x2048.size h).emb j) = P i
  congr 1
  funext a
  apply Fin.ext
  refine (Rect.emb_apply _ _ a).trans ?_
  fin_cases a
  · show x + 1 * (j 0).val = (i 0).val; omega
  · show 0 + 1 * (j 1).val = (i 1).val; omega

/-! ## The sum of the four devices -/

/-- The row of chunk `r` of device `c`'s block that is row `a` of the whole. -/
def bigRow (c : Dev nD) (r : Fin 2) (a : Fin 1024) : Fin 8192 :=
  ⟨2048 * c.val + 1024 * r.val + a.val, by have h : c.val < 4 := c.isLt; have := r.isLt; have := a.isLt; omega⟩

theorem sum2_at (d : Dev nD) (b : Bool) (j : S2048x1024.Idx) :
    sum2 m d b j = (part m (fr (fr d b) b) 0 b j + part m (fr d b) 1 b j) + part m d 2 b j := rfl

theorem blocks (c : Dev nD) :
    ((prv (prv (prv c))).val + 3 - (0 : Fin 3).val) % 4 = c.val ∧ ((prv (prv c)).val + 3 - (1 : Fin 3).val) % 4 = c.val
      ∧ ((prv c).val + 3 - (2 : Fin 3).val) % 4 = c.val ∧ ((nxt (nxt (nxt c))).val + 1 + (0 : Fin 3).val) % 4 = c.val
      ∧ ((nxt (nxt c)).val + 1 + (1 : Fin 3).val) % 4 = c.val ∧ ((nxt c).val + 1 + (2 : Fin 3).val) % 4 = c.val := by
  revert c; decide +kernel

theorem lastW_at (c : Dev nD) (r : Fin 2) (a : Fin 1024) (k : Fin 2048) :
    lastW m c r (ix2 a k) = if k.val < 1024
      then (pm m (prv (prv (prv c))) (ix3 0 (bigRow c r a) k) + pm m (prv (prv c)) (ix3 0 (bigRow c r a) k)) + pm m (prv c) (ix3 0 (bigRow c r a) k)
      else (pm m (nxt (nxt (nxt c))) (ix3 0 (bigRow c r a) k) + pm m (nxt (nxt c)) (ix3 0 (bigRow c r a) k)) + pm m (nxt c) (ix3 0 (bigRow c r a) k) := by
  obtain ⟨b1, b2, b3, b4, b5, b6⟩ := blocks c
  have hk := k.isLt
  by_cases hh : k.val < 1024
  · rw [if_pos hh]
    refine (dif_pos hh).trans ?_
    refine (sum2_at m _ _ _).trans ?_
    refine congrArg₂ (· + ·) (congrArg₂ (· + ·) (part_at m _ _ _ _ _ ?_ ?_) (part_at m _ _ _ _ _ ?_ ?_)) (part_at m _ _ _ _ _ ?_ ?_)
    · exact (show 2048 * c.val + 1024 * r.val + a.val = 2048 * c.val + (1024 * r.val + a.val) from by omega).trans (congrArg (2048 * · + (1024 * r.val + a.val)) b1.symm)
    · exact (Nat.zero_add _).symm
    · exact (show 2048 * c.val + 1024 * r.val + a.val = 2048 * c.val + (1024 * r.val + a.val) from by omega).trans (congrArg (2048 * · + (1024 * r.val + a.val)) b2.symm)
    · exact (Nat.zero_add _).symm
    · exact (show 2048 * c.val + 1024 * r.val + a.val = 2048 * c.val + (1024 * r.val + a.val) from by omega).trans (congrArg (2048 * · + (1024 * r.val + a.val)) b3.symm)
    · exact (Nat.zero_add _).symm
  · rw [if_neg hh]
    refine (dif_neg hh).trans ?_
    refine (sum2_at m _ _ _).trans ?_
    have hx : k.val = 1024 + (k.val - 1024) := by omega
    refine congrArg₂ (· + ·) (congrArg₂ (· + ·) (part_at m _ _ _ _ _ ?_ hx) (part_at m _ _ _ _ _ ?_ hx)) (part_at m _ _ _ _ _ ?_ hx)
    · exact (show 2048 * c.val + 1024 * r.val + a.val = 2048 * c.val + (1024 * r.val + a.val) from by omega).trans (congrArg (2048 * · + (1024 * r.val + a.val)) b4.symm)
    · exact (show 2048 * c.val + 1024 * r.val + a.val = 2048 * c.val + (1024 * r.val + a.val) from by omega).trans (congrArg (2048 * · + (1024 * r.val + a.val)) b5.symm)
    · exact (show 2048 * c.val + 1024 * r.val + a.val = 2048 * c.val + (1024 * r.val + a.val) from by omega).trans (congrArg (2048 * · + (1024 * r.val + a.val)) b6.symm)

theorem four (f : Fin 4 → EReal) : ∀ c : Dev nD,
    (f (prv (prv (prv c))) + f (prv (prv c))) + f (prv c) + f c = ∑ d : Fin 4, f d
    ∧ (f (nxt (nxt (nxt c))) + f (nxt (nxt c))) + f (nxt c) + f c = ∑ d : Fin 4, f d := by
  intro c
  rw [Fin.sum_univ_four]
  fin_cases c
  · show (f 1 + f 2) + f 3 + f 0 = _ ∧ (f 3 + f 2) + f 1 + f 0 = _
    constructor <;> abel
  · show (f 2 + f 3) + f 0 + f 1 = _ ∧ (f 0 + f 3) + f 2 + f 1 = _
    constructor <;> abel
  · show (f 3 + f 0) + f 1 + f 2 = _ ∧ (f 1 + f 0) + f 3 + f 2 = _
    constructor <;> abel
  · show (f 0 + f 1) + f 2 + f 3 = _ ∧ (f 2 + f 1) + f 0 + f 3 = _
    constructor <;> abel

variable {m}

theorem sum_at {P : Vec Ideal ⟨3, ![4, 8192, 2048]⟩ .f32} {R : Vec Ideal S8192x2048 .f32}
    (hP : ∀ c : Dev nD, pm m c = Layout.block ⟨3, ![1, 8192, 2048]⟩ ⟨3, ![4, 8192, 2048]⟩ 0 4 c P) (hR : ∀ c, rm m c = R)
    (c : Dev nD) (r : Fin 2) (a : Fin 1024) (k : Fin 2048) :
    k0_pay10 (lastW m c r) (ownP m c r) (ownR m c r) (ix2 a k) = total P R (bigRow c r a) k := by
  have hb (d : Dev nD) (x : Fin 8192) (y : Fin 2048) : pm m d (ix3 0 x y) = P (ix3 d x y) := by
    rw [hP, Layout.block_apply]
    congr 1
    funext e
    apply Fin.ext
    rw [Layout.Tiles.idx_val]
    fin_cases e <;> simp <;> rfl
  show lastW m c r (ix2 a k) + ownP m c r (ix2 a k) + ownR m c r (ix2 a k) = _
  have h1 : ownP m c r (ix2 a k) = P (ix3 c (bigRow c r a) k) :=
    (parF_at (pm m c) _ _ _ (off5_eq c r) (ix2 a k) (ix3 0 (bigRow c r a) k) rfl rfl).trans (hb _ _ _)
  have h2 : ownR m c r (ix2 a k) = R (ix2 (bigRow c r a) k) :=
    (rowC_at (rm m c) _ _ _ (off6_eq c r) (ix2 a k) (ix2 (bigRow c r a) k) rfl rfl).trans (congrFun (hR c) _)
  rw [h1, h2, lastW_at]
  simp only [hb]
  unfold total
  congr 1
  obtain ⟨q1, q2⟩ := four (fun d => P (ix3 d (bigRow c r a) k)) c
  split
  · exact q1
  · exact q2

/-! ## The normalisation -/

theorem norm_at (x y z : Vec Ideal S1024x2048 .f32) (g : Vec Ideal S2048 .f32) (a : Fin 1024) (k : Fin 2048) :
    normOf x y z g (ix2 a k) = normed (fun l => k0_pay10 x y z (ix2 a l)) (fun l => g (ix1 l)) k := by
  unfold normed
  pointwise [k0_pay12, k0_pay11]

/-- Every device's result is the reference's. -/
theorem outF_eq {P : Vec Ideal ⟨3, ![4, 8192, 2048]⟩ .f32} {R : Vec Ideal S8192x2048 .f32} {g : Vec Ideal S2048 .f32}
    (hP : ∀ c : Dev nD, pm m c = Layout.block ⟨3, ![1, 8192, 2048]⟩ ⟨3, ![4, 8192, 2048]⟩ 0 4 c P) (hR : ∀ c, rm m c = R)
    (hG : ∀ c, gm m c = g) : outF m = Cert.ReferenceIdeal.Value.refOut P R g := by
  funext i
  have h0 : (i 0).val < 8192 := (i 0).isLt
  have hi : i = ix2 (i 0 : Fin 8192) (i 1 : Fin 2048) := by funext a; fin_cases a <;> rfl
  have hr : bigRow (⟨(i 0).val / 2048, by show _ < 4; omega⟩ : Dev nD) (⟨(i 0).val % 2048 / 1024, by omega⟩ : Fin 2)
      (⟨(i 0).val % 1024, by omega⟩ : Fin 1024) = i 0 := Fin.ext (by
    show 2048 * ((i 0).val / 2048) + 1024 * ((i 0).val % 2048 / 1024) + (i 0).val % 1024 = (i 0).val; omega)
  refine Eq.trans ?_ ((refOut_at P R g (i 0) (i 1)).symm.trans (congrArg _ hi.symm))
  refine (norm_at _ _ _ _ (⟨(i 0).val % 1024, by omega⟩ : Fin 1024) (i 1 : Fin 2048)).trans ?_
  simp only [sum_at hP hR, hr, hG]

end Cert.KernelIdeal.Ring
-- ==== Proof.lean ====
/- The certificate: the claims of Defs.lean, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's result on every device is the reference's of the whole arrays. -/
theorem algebraic : Cert.algebraic_KernelIdeal_ReferenceIdeal := by
  intro m g m' g' _ h
  refine ⟨_, (θ_run Cert.KernelIdeal.defs _ _).mono
      (fun _ hr c => ⟨((hr.1 c).2.2.2).trans (Cert.KernelIdeal.Ring.outF_eq (fun d => (h d).1) (fun d => (h d).2.1) fun d => (h d).2.2),
        (hr.1 c).1, (hr.1 c).2.1, (hr.1 c).2.2.1⟩) (Cert.KernelIdeal.Ring.run_main (F := Ideal) m g),
    (θ_run Cert.ReferenceIdeal.defs _ _).mono (fun _ hr => ⟨(hr 0).1, (hr 0).2⟩) (Cert.ReferenceIdeal.Value.run (F := Ideal) m' g')⟩

theorem claim : Cert.Claim := ⟨Cert.Kernel.Gen.facts, Cert.KernelIdeal.Gen.facts, Cert.ReferenceIdeal.Gen.facts,
  Cert.Frames.frame_kernel, Cert.Frames.frame_ideal, Cert.Frames.frame_reference, trivial, algebraic⟩

end Cert.Proof

end
